-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000x128x128 : Shape := ⟨3, ![1000, 128, 128]⟩
abbrev S100x128x128 : Shape := ⟨3, ![100, 128, 128]⟩
abbrev S125x8x128x128 : Shape := ⟨4, ![125, 8, 128, 128]⟩
abbrev S8x128 : Shape := ⟨2, ![8, 128]⟩
abbrev S125x8x32x128 : Shape := ⟨4, ![125, 8, 32, 128]⟩
abbrev S100x32x128 : Shape := ⟨3, ![100, 32, 128]⟩
abbrev S1000x128 : Shape := ⟨2, ![1000, 128]⟩
abbrev S1000x4096 : Shape := ⟨2, ![1000, 4096]⟩
abbrev S100x4096 : Shape := ⟨2, ![100, 4096]⟩
abbrev S27x4096 : Shape := ⟨2, ![27, 4096]⟩
abbrev S1x4096 : Shape := ⟨2, ![1, 4096]⟩
abbrev S128x4096 : Shape := ⟨2, ![128, 4096]⟩
abbrev S8x4096 : Shape := ⟨2, ![8, 4096]⟩
abbrev S1000x1 : Shape := ⟨2, ![1000, 1]⟩
abbrev S1x128 : Shape := ⟨2, ![1, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1000 : Shape := ⟨1, ![1000]⟩
abbrev S1x1000x1 : Shape := ⟨3, ![1, 1000, 1]⟩
abbrev S1x1 : Shape := ⟨2, ![1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S1000x128x128, .f32⟩
  | .hbm, ⟨1, _⟩ => ⟨S100x128x128, .f32⟩
  | .hbm, ⟨2, _⟩ => ⟨S125x8x128x128, .f32⟩
  | .hbm, ⟨3, _⟩ => ⟨S8x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .local _ .vmem, ⟨0, _⟩ => ⟨S125x8x32x128, .f32⟩
  | .local _ .vmem, ⟨1, _⟩ => ⟨S125x8x32x128, .f32⟩
  | .local _ .vmem, ⟨2, _⟩ => ⟨S100x32x128, .f32⟩
  | .local _ .vmem, ⟨3, _⟩ => ⟨S100x32x128, .f32⟩
  | .local _ .vmem, ⟨4, _⟩ => ⟨S8x128, .f32⟩
  | .local _ .vmem, ⟨5, _⟩ => ⟨S1000x128, .i32⟩
  | .local _ .vmem, ⟨6, _⟩ => ⟨S8x128, .i32⟩
  | _, _ => ⟨S1000x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_19 : BitVec 32 := 0#32
  let v32 : BitVec 1 := Scalar.cmpi .ne v31 c0_i32_19
  v32

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S125x8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1000x128x128 : Shape := ⟨3, ![1000, 128, 128]⟩
abbrev S100x128x128 : Shape := ⟨3, ![100, 128, 128]⟩
abbrev S1000x16384 : Shape := ⟨2, ![1000, 16384]⟩
abbrev S_ : Shape := ⟨0, ![]⟩
abbrev S100x16384 : Shape := ⟨2, ![100, 16384]⟩
abbrev S16384x100 : Shape := ⟨2, ![16384, 100]⟩
abbrev S1000x100 : Shape := ⟨2, ![1000, 100]⟩
abbrev S1000 : Shape := ⟨1, ![1000]⟩
abbrev S1000x1 : Shape := ⟨2, ![1000, 1]⟩
abbrev S100 : Shape := ⟨1, ![100]⟩
abbrev S1x100 : Shape := ⟨2, ![1, 100]⟩
abbrev S1 : Shape := ⟨1, ![1]⟩
abbrev S10 : Shape := ⟨1, ![10]⟩

abbrev nBuf : Space → Nat
  | .hbm => 316
  | .vmem => 0
  | .smem => 0
  | _ => 0

abbrev hbmTy0_0 (i : Nat) : BufTy := match i % 128 with
  | 0 => ⟨S1000x128x128, .f32⟩
  | 1 => ⟨S100x128x128, .f32⟩
  | 2 => ⟨S1000x16384, .f32⟩
  | 3 => ⟨S_, .f32⟩
  | 4 => ⟨S1000x16384, .f32⟩
  | 5 => ⟨S1000x16384, .i1⟩
  | 6 => ⟨S1000x16384, .f32⟩
  | 7 => ⟨S100x16384, .f32⟩
  | 8 => ⟨S_, .f32⟩
  | 9 => ⟨S100x16384, .f32⟩
  | 10 => ⟨S100x16384, .i1⟩
  | 11 => ⟨S100x16384, .f32⟩
  | 12 => ⟨S16384x100, .f32⟩
  | 13 => ⟨S1000x100, .f32⟩
  | 14 => ⟨S_, .f32⟩
  | 15 => ⟨S1000, .f32⟩
  | 16 => ⟨S1000x1, .f32⟩
  | 17 => ⟨S_, .f32⟩
  | 18 => ⟨S100, .f32⟩
  | 19 => ⟨S1x100, .f32⟩
  | 20 => ⟨S1000x100, .f32⟩
  | 21 => ⟨S1000x100, .f32⟩
  | 22 => ⟨S1000x100, .f32⟩
  | 23 => ⟨S1000x100, .f32⟩
  | 24 => ⟨S_, .f32⟩
  | 25 => ⟨S1000x100, .f32⟩
  | 26 => ⟨S1000x100, .f32⟩
  | 27 => ⟨S1000x100, .f32⟩
  | 28 => ⟨S_, .f32⟩
  | 29 => ⟨S1000x100, .f32⟩
  | 30 => ⟨S1000x100, .i1⟩
  | 31 => ⟨S_, .i1⟩
  | 32 => ⟨S100, .i1⟩
  | 33 => ⟨S100, .f32⟩
  | 34 => ⟨S_, .f32⟩
  | 35 => ⟨S_, .f32⟩
  | 36 => ⟨S_, .i1⟩
  | 37 => ⟨S1000, .i1⟩
  | 38 => ⟨S1000, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1000x100, .f32⟩
  | 52 => ⟨S1000x100, .i1⟩
  | 53 => ⟨S_, .i1⟩
  | 54 => ⟨S100, .i1⟩
  | 55 => ⟨S100, .f32⟩
  | 56 => ⟨S_, .f32⟩
  | 57 => ⟨S_, .f32⟩
  | 58 => ⟨S_, .i1⟩
  | 59 => ⟨S1000, .i1⟩
  | 60 => ⟨S1000, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1000x100, .f32⟩
  | 74 => ⟨S1000x100, .i1⟩
  | 75 => ⟨S_, .i1⟩
  | 76 => ⟨S100, .i1⟩
  | 77 => ⟨S100, .f32⟩
  | 78 => ⟨S_, .f32⟩
  | 79 => ⟨S_, .f32⟩
  | 80 => ⟨S_, .i1⟩
  | 81 => ⟨S1000, .i1⟩
  | 82 => ⟨S1000, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1000x100, .f32⟩
  | 96 => ⟨S1000x100, .i1⟩
  | 97 => ⟨S_, .i1⟩
  | 98 => ⟨S100, .i1⟩
  | 99 => ⟨S100, .f32⟩
  | 100 => ⟨S_, .f32⟩
  | 101 => ⟨S_, .f32⟩
  | 102 => ⟨S_, .i1⟩
  | 103 => ⟨S1000, .i1⟩
  | 104 => ⟨S1000, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S1000x100, .f32⟩
  | 118 => ⟨S1000x100, .i1⟩
  | 119 => ⟨S_, .i1⟩
  | 120 => ⟨S100, .i1⟩
  | 121 => ⟨S100, .f32⟩
  | 122 => ⟨S_, .f32⟩
  | 123 => ⟨S_, .f32⟩
  | 124 => ⟨S_, .i1⟩
  | 125 => ⟨S1000, .i1⟩
  | 126 => ⟨S1000, .f32⟩
  | 127 => ⟨S_, .f32⟩
  | _ => ⟨S1000x128x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S1000x100, .f32⟩
  | 12 => ⟨S1000x100, .i1⟩
  | 13 => ⟨S_, .i1⟩
  | 14 => ⟨S100, .i1⟩
  | 15 => ⟨S100, .f32⟩
  | 16 => ⟨S_, .f32⟩
  | 17 => ⟨S_, .f32⟩
  | 18 => ⟨S_, .i1⟩
  | 19 => ⟨S1000, .i1⟩
  | 20 => ⟨S1000, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S1000x100, .f32⟩
  | 34 => ⟨S1000x100, .i1⟩
  | 35 => ⟨S_, .i1⟩
  | 36 => ⟨S100, .i1⟩
  | 37 => ⟨S100, .f32⟩
  | 38 => ⟨S_, .f32⟩
  | 39 => ⟨S_, .f32⟩
  | 40 => ⟨S_, .i1⟩
  | 41 => ⟨S1000, .i1⟩
  | 42 => ⟨S1000, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S1000x100, .f32⟩
  | 56 => ⟨S1000x100, .i1⟩
  | 57 => ⟨S_, .i1⟩
  | 58 => ⟨S100, .i1⟩
  | 59 => ⟨S100, .f32⟩
  | 60 => ⟨S_, .f32⟩
  | 61 => ⟨S_, .f32⟩
  | 62 => ⟨S_, .i1⟩
  | 63 => ⟨S1000, .i1⟩
  | 64 => ⟨S1000, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1000x100, .f32⟩
  | 78 => ⟨S1000x100, .i1⟩
  | 79 => ⟨S_, .i1⟩
  | 80 => ⟨S100, .i1⟩
  | 81 => ⟨S100, .f32⟩
  | 82 => ⟨S_, .f32⟩
  | 83 => ⟨S_, .f32⟩
  | 84 => ⟨S_, .i1⟩
  | 85 => ⟨S1000, .i1⟩
  | 86 => ⟨S1000, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1000x100, .f32⟩
  | 100 => ⟨S1000x100, .i1⟩
  | 101 => ⟨S_, .i1⟩
  | 102 => ⟨S100, .i1⟩
  | 103 => ⟨S100, .f32⟩
  | 104 => ⟨S_, .f32⟩
  | 105 => ⟨S_, .f32⟩
  | 106 => ⟨S_, .i1⟩
  | 107 => ⟨S1000, .i1⟩
  | 108 => ⟨S1000, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S1, .f32⟩
  | 121 => ⟨S1, .f32⟩
  | 122 => ⟨S1, .f32⟩
  | 123 => ⟨S1, .f32⟩
  | 124 => ⟨S1, .f32⟩
  | 125 => ⟨S1, .f32⟩
  | 126 => ⟨S1, .f32⟩
  | 127 => ⟨S1, .f32⟩
  | _ => ⟨S1000x128x128, .f32⟩

abbrev hbmTy0_2 (i : Nat) : BufTy := match i % 128 with
  | 0 => ⟨S1, .f32⟩
  | 1 => ⟨S1, .f32⟩
  | 2 => ⟨S10, .f32⟩
  | 3 => ⟨S_, .f32⟩
  | 4 => ⟨S_, .f32⟩
  | 5 => ⟨S_, .f32⟩
  | 6 => ⟨S_, .f32⟩
  | 7 => ⟨S1000x16384, .f32⟩
  | 8 => ⟨S_, .f32⟩
  | 9 => ⟨S1000x16384, .f32⟩
  | 10 => ⟨S1000x16384, .i1⟩
  | 11 => ⟨S1000x16384, .f32⟩
  | 12 => ⟨S100x16384, .f32⟩
  | 13 => ⟨S_, .f32⟩
  | 14 => ⟨S100x16384, .f32⟩
  | 15 => ⟨S100x16384, .i1⟩
  | 16 => ⟨S100x16384, .f32⟩
  | 17 => ⟨S16384x100, .f32⟩
  | 18 => ⟨S1000x100, .f32⟩
  | 19 => ⟨S_, .f32⟩
  | 20 => ⟨S1000, .f32⟩
  | 21 => ⟨S1000x1, .f32⟩
  | 22 => ⟨S_, .f32⟩
  | 23 => ⟨S100, .f32⟩
  | 24 => ⟨S1x100, .f32⟩
  | 25 => ⟨S1000x100, .f32⟩
  | 26 => ⟨S1000x100, .f32⟩
  | 27 => ⟨S1000x100, .f32⟩
  | 28 => ⟨S1000x100, .f32⟩
  | 29 => ⟨S_, .f32⟩
  | 30 => ⟨S1000x100, .f32⟩
  | 31 => ⟨S1000x100, .f32⟩
  | 32 => ⟨S1000x100, .f32⟩
  | 33 => ⟨S_, .f32⟩
  | 34 => ⟨S1000x100, .f32⟩
  | 35 => ⟨S1000x100, .i1⟩
  | 36 => ⟨S_, .i1⟩
  | 37 => ⟨S100, .i1⟩
  | 38 => ⟨S100, .f32⟩
  | 39 => ⟨S_, .f32⟩
  | 40 => ⟨S_, .f32⟩
  | 41 => ⟨S_, .i1⟩
  | 42 => ⟨S1000, .i1⟩
  | 43 => ⟨S1000, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S1, .f32⟩
  | 56 => ⟨S_, .f32⟩
  | 57 => ⟨S_, .f32⟩
  | 58 => ⟨S_, .f32⟩
  | 59 => ⟨S_, .f32⟩
  | _ => ⟨S1000x128x128, .f32⟩

abbrev hbmTy (i : Nat) : BufTy := match i / 128 with
  | 0 => hbmTy0_0 i
  | 1 => hbmTy0_1 i
  | 2 => hbmTy0_2 i
  | _ => ⟨S1000x128x128, .f32⟩

abbrev bufTy : (tb : Table) → Fin (tcTables nBuf tb) → BufTy
  | .hbm, ⟨i, _⟩ => hbmTy i
  | _, _ => ⟨S1000x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_c_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_c_14 : Ref sig .tc := ⟨.hbm, 58, rfl⟩
abbrev main_v40 : Ref sig .tc := ⟨.hbm, 59, rfl⟩
abbrev main_v41 : Ref sig .tc := ⟨.hbm, 60, rfl⟩
abbrev main_cst_15 : Ref sig .tc := ⟨.hbm, 61, rfl⟩
abbrev main_v42 : Ref sig .tc := ⟨.hbm, 62, rfl⟩
abbrev main_cst_16 : Ref sig .tc := ⟨.hbm, 63, rfl⟩
abbrev main_v43 : Ref sig .tc := ⟨.hbm, 64, rfl⟩
abbrev main_cst_17 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_18 : Ref sig .tc := ⟨.hbm, 69, rfl⟩
abbrev main_v47 : Ref sig .tc := ⟨.hbm, 70, rfl⟩
abbrev main_v48 : Ref sig .tc := ⟨.hbm, 71, rfl⟩
abbrev main_cst_19 : Ref sig .tc := ⟨.hbm, 72, rfl⟩
abbrev main_v49 : Ref sig .tc := ⟨.hbm, 73, rfl⟩
abbrev main_v50 : Ref sig .tc := ⟨.hbm, 74, rfl⟩
abbrev main_c_20 : Ref sig .tc := ⟨.hbm, 75, rfl⟩
abbrev main_v51 : Ref sig .tc := ⟨.hbm, 76, rfl⟩
abbrev main_v52 : Ref sig .tc := ⟨.hbm, 77, rfl⟩
abbrev main_cst_21 : Ref sig .tc := ⟨.hbm, 78, rfl⟩
abbrev main_v53 : Ref sig .tc := ⟨.hbm, 79, rfl⟩
abbrev main_c_22 : Ref sig .tc := ⟨.hbm, 80, rfl⟩
abbrev main_v54 : Ref sig .tc := ⟨.hbm, 81, rfl⟩
abbrev main_v55 : Ref sig .tc := ⟨.hbm, 82, rfl⟩
abbrev main_cst_23 : Ref sig .tc := ⟨.hbm, 83, rfl⟩
abbrev main_v56 : Ref sig .tc := ⟨.hbm, 84, rfl⟩
abbrev main_cst_24 : Ref sig .tc := ⟨.hbm, 85, rfl⟩
abbrev main_v57 : Ref sig .tc := ⟨.hbm, 86, rfl⟩
abbrev main_cst_25 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_26 : Ref sig .tc := ⟨.hbm, 91, rfl⟩
abbrev main_v61 : Ref sig .tc := ⟨.hbm, 92, rfl⟩
abbrev main_v62 : Ref sig .tc := ⟨.hbm, 93, rfl⟩
abbrev main_cst_27 : Ref sig .tc := ⟨.hbm, 94, rfl⟩
abbrev main_v63 : Ref sig .tc := ⟨.hbm, 95, rfl⟩
abbrev main_v64 : Ref sig .tc := ⟨.hbm, 96, rfl⟩
abbrev main_c_28 : Ref sig .tc := ⟨.hbm, 97, rfl⟩
abbrev main_v65 : Ref sig .tc := ⟨.hbm, 98, rfl⟩
abbrev main_v66 : Ref sig .tc := ⟨.hbm, 99, rfl⟩
abbrev main_cst_29 : Ref sig .tc := ⟨.hbm, 100, rfl⟩
abbrev main_v67 : Ref sig .tc := ⟨.hbm, 101, rfl⟩
abbrev main_c_30 : Ref sig .tc := ⟨.hbm, 102, rfl⟩
abbrev main_v68 : Ref sig .tc := ⟨.hbm, 103, rfl⟩
abbrev main_v69 : Ref sig .tc := ⟨.hbm, 104, rfl⟩
abbrev main_cst_31 : Ref sig .tc := ⟨.hbm, 105, rfl⟩
abbrev main_v70 : Ref sig .tc := ⟨.hbm, 106, rfl⟩
abbrev main_cst_32 : Ref sig .tc := ⟨.hbm, 107, rfl⟩
abbrev main_v71 : Ref sig .tc := ⟨.hbm, 108, rfl⟩
abbrev main_cst_33 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_34 : Ref sig .tc := ⟨.hbm, 113, rfl⟩
abbrev main_v75 : Ref sig .tc := ⟨.hbm, 114, rfl⟩
abbrev main_v76 : Ref sig .tc := ⟨.hbm, 115, rfl⟩
abbrev main_cst_35 : Ref sig .tc := ⟨.hbm, 116, rfl⟩
abbrev main_v77 : Ref sig .tc := ⟨.hbm, 117, rfl⟩
abbrev main_v78 : Ref sig .tc := ⟨.hbm, 118, rfl⟩
abbrev main_c_36 : Ref sig .tc := ⟨.hbm, 119, rfl⟩
abbrev main_v79 : Ref sig .tc := ⟨.hbm, 120, rfl⟩
abbrev main_v80 : Ref sig .tc := ⟨.hbm, 121, rfl⟩
abbrev main_cst_37 : Ref sig .tc := ⟨.hbm, 122, rfl⟩
abbrev main_v81 : Ref sig .tc := ⟨.hbm, 123, rfl⟩
abbrev main_c_38 : Ref sig .tc := ⟨.hbm, 124, rfl⟩
abbrev main_v82 : Ref sig .tc := ⟨.hbm, 125, rfl⟩
abbrev main_v83 : Ref sig .tc := ⟨.hbm, 126, rfl⟩
abbrev main_cst_39 : Ref sig .tc := ⟨.hbm, 127, rfl⟩
abbrev main_v84 : Ref sig .tc := ⟨.hbm, 128, rfl⟩
abbrev main_cst_40 : Ref sig .tc := ⟨.hbm, 129, rfl⟩
abbrev main_v85 : Ref sig .tc := ⟨.hbm, 130, rfl⟩
abbrev main_cst_41 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_42 : Ref sig .tc := ⟨.hbm, 135, rfl⟩
abbrev main_v89 : Ref sig .tc := ⟨.hbm, 136, rfl⟩
abbrev main_v90 : Ref sig .tc := ⟨.hbm, 137, rfl⟩
abbrev main_cst_43 : Ref sig .tc := ⟨.hbm, 138, rfl⟩
abbrev main_v91 : Ref sig .tc := ⟨.hbm, 139, rfl⟩
abbrev main_v92 : Ref sig .tc := ⟨.hbm, 140, rfl⟩
abbrev main_c_44 : Ref sig .tc := ⟨.hbm, 141, rfl⟩
abbrev main_v93 : Ref sig .tc := ⟨.hbm, 142, rfl⟩
abbrev main_v94 : Ref sig .tc := ⟨.hbm, 143, rfl⟩
abbrev main_cst_45 : Ref sig .tc := ⟨.hbm, 144, rfl⟩
abbrev main_v95 : Ref sig .tc := ⟨.hbm, 145, rfl⟩
abbrev main_c_46 : Ref sig .tc := ⟨.hbm, 146, rfl⟩
abbrev main_v96 : Ref sig .tc := ⟨.hbm, 147, rfl⟩
abbrev main_v97 : Ref sig .tc := ⟨.hbm, 148, rfl⟩
abbrev main_cst_47 : Ref sig .tc := ⟨.hbm, 149, rfl⟩
abbrev main_v98 : Ref sig .tc := ⟨.hbm, 150, rfl⟩
abbrev main_cst_48 : Ref sig .tc := ⟨.hbm, 151, rfl⟩
abbrev main_v99 : Ref sig .tc := ⟨.hbm, 152, rfl⟩
abbrev main_cst_49 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_50 : Ref sig .tc := ⟨.hbm, 157, rfl⟩
abbrev main_v103 : Ref sig .tc := ⟨.hbm, 158, rfl⟩
abbrev main_v104 : Ref sig .tc := ⟨.hbm, 159, rfl⟩
abbrev main_cst_51 : Ref sig .tc := ⟨.hbm, 160, rfl⟩
abbrev main_v105 : Ref sig .tc := ⟨.hbm, 161, rfl⟩
abbrev main_v106 : Ref sig .tc := ⟨.hbm, 162, rfl⟩
abbrev main_c_52 : Ref sig .tc := ⟨.hbm, 163, rfl⟩
abbrev main_v107 : Ref sig .tc := ⟨.hbm, 164, rfl⟩
abbrev main_v108 : Ref sig .tc := ⟨.hbm, 165, rfl⟩
abbrev main_cst_53 : Ref sig .tc := ⟨.hbm, 166, rfl⟩
abbrev main_v109 : Ref sig .tc := ⟨.hbm, 167, rfl⟩
abbrev main_c_54 : Ref sig .tc := ⟨.hbm, 168, rfl⟩
abbrev main_v110 : Ref sig .tc := ⟨.hbm, 169, rfl⟩
abbrev main_v111 : Ref sig .tc := ⟨.hbm, 170, rfl⟩
abbrev main_cst_55 : Ref sig .tc := ⟨.hbm, 171, rfl⟩
abbrev main_v112 : Ref sig .tc := ⟨.hbm, 172, rfl⟩
abbrev main_cst_56 : Ref sig .tc := ⟨.hbm, 173, rfl⟩
abbrev main_v113 : Ref sig .tc := ⟨.hbm, 174, rfl⟩
abbrev main_cst_57 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_58 : Ref sig .tc := ⟨.hbm, 179, rfl⟩
abbrev main_v117 : Ref sig .tc := ⟨.hbm, 180, rfl⟩
abbrev main_v118 : Ref sig .tc := ⟨.hbm, 181, rfl⟩
abbrev main_cst_59 : Ref sig .tc := ⟨.hbm, 182, rfl⟩
abbrev main_v119 : Ref sig .tc := ⟨.hbm, 183, rfl⟩
abbrev main_v120 : Ref sig .tc := ⟨.hbm, 184, rfl⟩
abbrev main_c_60 : Ref sig .tc := ⟨.hbm, 185, rfl⟩
abbrev main_v121 : Ref sig .tc := ⟨.hbm, 186, rfl⟩
abbrev main_v122 : Ref sig .tc := ⟨.hbm, 187, rfl⟩
abbrev main_cst_61 : Ref sig .tc := ⟨.hbm, 188, rfl⟩
abbrev main_v123 : Ref sig .tc := ⟨.hbm, 189, rfl⟩
abbrev main_c_62 : Ref sig .tc := ⟨.hbm, 190, rfl⟩
abbrev main_v124 : Ref sig .tc := ⟨.hbm, 191, rfl⟩
abbrev main_v125 : Ref sig .tc := ⟨.hbm, 192, rfl⟩
abbrev main_cst_63 : Ref sig .tc := ⟨.hbm, 193, rfl⟩
abbrev main_v126 : Ref sig .tc := ⟨.hbm, 194, rfl⟩
abbrev main_cst_64 : Ref sig .tc := ⟨.hbm, 195, rfl⟩
abbrev main_v127 : Ref sig .tc := ⟨.hbm, 196, rfl⟩
abbrev main_cst_65 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_66 : Ref sig .tc := ⟨.hbm, 201, rfl⟩
abbrev main_v131 : Ref sig .tc := ⟨.hbm, 202, rfl⟩
abbrev main_v132 : Ref sig .tc := ⟨.hbm, 203, rfl⟩
abbrev main_cst_67 : Ref sig .tc := ⟨.hbm, 204, rfl⟩
abbrev main_v133 : Ref sig .tc := ⟨.hbm, 205, rfl⟩
abbrev main_v134 : Ref sig .tc := ⟨.hbm, 206, rfl⟩
abbrev main_c_68 : Ref sig .tc := ⟨.hbm, 207, rfl⟩
abbrev main_v135 : Ref sig .tc := ⟨.hbm, 208, rfl⟩
abbrev main_v136 : Ref sig .tc := ⟨.hbm, 209, rfl⟩
abbrev main_cst_69 : Ref sig .tc := ⟨.hbm, 210, rfl⟩
abbrev main_v137 : Ref sig .tc := ⟨.hbm, 211, rfl⟩
abbrev main_c_70 : Ref sig .tc := ⟨.hbm, 212, rfl⟩
abbrev main_v138 : Ref sig .tc := ⟨.hbm, 213, rfl⟩
abbrev main_v139 : Ref sig .tc := ⟨.hbm, 214, rfl⟩
abbrev main_cst_71 : Ref sig .tc := ⟨.hbm, 215, rfl⟩
abbrev main_v140 : Ref sig .tc := ⟨.hbm, 216, rfl⟩
abbrev main_cst_72 : Ref sig .tc := ⟨.hbm, 217, rfl⟩
abbrev main_v141 : Ref sig .tc := ⟨.hbm, 218, rfl⟩
abbrev main_cst_73 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_cst_74 : Ref sig .tc := ⟨.hbm, 223, rfl⟩
abbrev main_v145 : Ref sig .tc := ⟨.hbm, 224, rfl⟩
abbrev main_v146 : Ref sig .tc := ⟨.hbm, 225, rfl⟩
abbrev main_cst_75 : Ref sig .tc := ⟨.hbm, 226, rfl⟩
abbrev main_v147 : Ref sig .tc := ⟨.hbm, 227, rfl⟩
abbrev main_v148 : Ref sig .tc := ⟨.hbm, 228, rfl⟩
abbrev main_c_76 : Ref sig .tc := ⟨.hbm, 229, rfl⟩
abbrev main_v149 : Ref sig .tc := ⟨.hbm, 230, rfl⟩
abbrev main_v150 : Ref sig .tc := ⟨.hbm, 231, rfl⟩
abbrev main_cst_77 : Ref sig .tc := ⟨.hbm, 232, rfl⟩
abbrev main_v151 : Ref sig .tc := ⟨.hbm, 233, rfl⟩
abbrev main_c_78 : Ref sig .tc := ⟨.hbm, 234, rfl⟩
abbrev main_v152 : Ref sig .tc := ⟨.hbm, 235, rfl⟩
abbrev main_v153 : Ref sig .tc := ⟨.hbm, 236, rfl⟩
abbrev main_cst_79 : Ref sig .tc := ⟨.hbm, 237, rfl⟩
abbrev main_v154 : Ref sig .tc := ⟨.hbm, 238, rfl⟩
abbrev main_cst_80 : Ref sig .tc := ⟨.hbm, 239, rfl⟩
abbrev main_v155 : Ref sig .tc := ⟨.hbm, 240, rfl⟩
abbrev main_cst_81 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_cst_82 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_cst_83 : Ref sig .tc := ⟨.hbm, 259, rfl⟩
abbrev main_v172 : Ref sig .tc := ⟨.hbm, 260, rfl⟩
abbrev main_cst_84 : Ref sig .tc := ⟨.hbm, 261, rfl⟩
abbrev main_v173 : Ref sig .tc := ⟨.hbm, 262, rfl⟩
abbrev main_v174 : Ref sig .tc := ⟨.hbm, 263, rfl⟩
abbrev main_cst_85 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_86 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_cst_87 : Ref sig .tc := ⟨.hbm, 275, rfl⟩
abbrev main_v184 : Ref sig .tc := ⟨.hbm, 276, rfl⟩
abbrev main_v185 : Ref sig .tc := ⟨.hbm, 277, rfl⟩
abbrev main_cst_88 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_cst_89 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_cst_90 : Ref sig .tc := ⟨.hbm, 289, rfl⟩
abbrev main_v195 : Ref sig .tc := ⟨.hbm, 290, rfl⟩
abbrev main_v196 : Ref sig .tc := ⟨.hbm, 291, rfl⟩
abbrev main_c_91 : Ref sig .tc := ⟨.hbm, 292, rfl⟩
abbrev main_v197 : Ref sig .tc := ⟨.hbm, 293, rfl⟩
abbrev main_v198 : Ref sig .tc := ⟨.hbm, 294, rfl⟩
abbrev main_cst_92 : Ref sig .tc := ⟨.hbm, 295, rfl⟩
abbrev main_v199 : Ref sig .tc := ⟨.hbm, 296, rfl⟩
abbrev main_c_93 : Ref sig .tc := ⟨.hbm, 297, rfl⟩
abbrev main_v200 : Ref sig .tc := ⟨.hbm, 298, rfl⟩
abbrev main_v201 : Ref sig .tc := ⟨.hbm, 299, rfl⟩
abbrev main_cst_94 : Ref sig .tc := ⟨.hbm, 300, rfl⟩
abbrev main_v202 : Ref sig .tc := ⟨.hbm, 301, rfl⟩
abbrev main_cst_95 : Ref sig .tc := ⟨.hbm, 302, rfl⟩
abbrev main_v203 : Ref sig .tc := ⟨.hbm, 303, rfl⟩
abbrev main_cst_96 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_cst_97 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_cst_98 : Ref sig .tc := ⟨.hbm, 312, rfl⟩
abbrev main_v210 : Ref sig .tc := ⟨.hbm, 313, rfl⟩
abbrev main_cst_99 : Ref sig .tc := ⟨.hbm, 314, rfl⟩
abbrev main_v211 : Ref sig .tc := ⟨.hbm, 315, rfl⟩

abbrev nD : Nat := 1
abbrev τ : Topo := Topo.v7x

variable {F : FTy → Type} [FloatOps F]
-- ==== Proof.Body.lean ====
/-
  What one grid point of the kernel leaves behind: in the two integer accumulators it carries from point to
  point, and (at the last point) in the block of results.
-/
module

public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first point leaves its block's counts in the first accumulator, added to the zeros it starts from. -/
theorem sout_A_0 (c : Dev nD) (i : grid0.Coords) (a1 : Memref sig .tc .vmem S125x8x32x128 .f32) (h1 : a1.IsWhole)
    (a2 : Memref sig .tc .vmem S100x32x128 .f32) (h2 : a2.IsWhole) (a3 : Memref sig .tc .vmem S8x128 .f32) (h3 : a3.IsWhole)
    (a4 : Memref sig .tc .vmem S1000x128 .i32) (h4 : a4.IsWhole) (a5 : Memref sig .tc .vmem S8x128 .i32) (h5 : a5.IsWhole)
    (hc0 : cond0_0 i) (hc1 : ¬cond0_1 i) (x0 : Vec F S125x8x32x128 .f32) (x1 : Vec F S100x32x128 .f32) :
    sout0_A_0 c i a1 h1 a2 h2 a3 h3 a4 h4 a5 h5 hc0 hc1 x0 x1 = k0_pay31 x0 x1 k0_pay28 := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1000x128) hz2, View.readCov_unit_zero (S := S1000x128) _ hz2]
  simp only [View.readAt_eq_ld, h1.read_unread, h2.read_unread, View.ld_unit_zero (S := S125x8x32x128) hz4, View.ld_unit_zero (S := S100x32x128) hz3]

/-- The first point leaves its block's column counts in the second accumulator, added to zeros. -/
theorem sout_A_1 (c : Dev nD) (i : grid0.Coords) (a1 : Memref sig .tc .vmem S125x8x32x128 .f32) (h1 : a1.IsWhole)
    (a2 : Memref sig .tc .vmem S100x32x128 .f32) (h2 : a2.IsWhole) (a3 : Memref sig .tc .vmem S8x128 .f32) (h3 : a3.IsWhole)
    (a4 : Memref sig .tc .vmem S1000x128 .i32) (h4 : a4.IsWhole) (a5 : Memref sig .tc .vmem S8x128 .i32) (h5 : a5.IsWhole)
    (hc0 : cond0_0 i) (hc1 : ¬cond0_1 i) (x0 : Vec F S125x8x32x128 .f32) (x1 : Vec F S100x32x128 .f32) :
    sout0_A_1 c i a1 h1 a2 h2 a3 h3 a4 h4 a5 h5 hc0 hc1 x0 x1 = k0_pay32 x1 k0_pay29 := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S100x32x128) hz3]

/-- A middle point adds its block's counts to the first accumulator. -/
theorem sout_B_0 (c : Dev nD) (i : grid0.Coords) (a1 : Memref sig .tc .vmem S125x8x32x128 .f32) (h1 : a1.IsWhole)
    (a2 : Memref sig .tc .vmem S100x32x128 .f32) (h2 : a2.IsWhole) (a3 : Memref sig .tc .vmem S8x128 .f32) (h3 : a3.IsWhole)
    (a4 : Memref sig .tc .vmem S1000x128 .i32) (h4 : a4.IsWhole) (a5 : Memref sig .tc .vmem S8x128 .i32) (h5 : a5.IsWhole)
    (hc0 : ¬cond0_0 i) (hc1 : ¬cond0_1 i) (x0 : Vec F S125x8x32x128 .f32) (x1 : Vec F S100x32x128 .f32)
    (xs0 : Vec F S1000x128 .i32) (xs1 : Vec F S8x128 .i32) :
    sout0_B_0 c i a1 h1 a2 h2 a3 h3 a4 h4 a5 h5 hc0 hc1 x0 x1 xs0 xs1 = k0_pay31 x0 x1 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  sl_unfold_words
  rw [View.canon_unit_zero hz2]
  simp only [View.readAt_eq_ld, h1.read_unread, h2.read_unread, h4.read_unread, View.ld_unit_zero (S := S125x8x32x128) hz4, View.ld_unit_zero (S := S100x32x128) hz3, View.ld_unit_zero (S := S1000x128) hz2]

/-- A middle point adds its block's column counts to the second accumulator. -/
theorem sout_B_1 (c : Dev nD) (i : grid0.Coords) (a1 : Memref sig .tc .vmem S125x8x32x128 .f32) (h1 : a1.IsWhole)
    (a2 : Memref sig .tc .vmem S100x32x128 .f32) (h2 : a2.IsWhole) (a3 : Memref sig .tc .vmem S8x128 .f32) (h3 : a3.IsWhole)
    (a4 : Memref sig .tc .vmem S1000x128 .i32) (h4 : a4.IsWhole) (a5 : Memref sig .tc .vmem S8x128 .i32) (h5 : a5.IsWhole)
    (hc0 : ¬cond0_0 i) (hc1 : ¬cond0_1 i) (x0 : Vec F S125x8x32x128 .f32) (x1 : Vec F S100x32x128 .f32)
    (xs0 : Vec F S1000x128 .i32) (xs1 : Vec F S8x128 .i32) :
    sout0_B_1 c i a1 h1 a2 h2 a3 h3 a4 h4 a5 h5 hc0 hc1 x0 x1 xs0 xs1 = k0_pay32 x1 xs1 := by
  unfold sout0_B_1
  rw [View.read_writes_eq_canon _ _ _ (scover0_B_1 c i a1 h1 a2 h2 a3 h3 a4 h4 a5 h5 hc0 hc1 x0 x1 xs0 xs1)]
  unfold kernelRun0_B
  dsimp only
  sl_unfold_words
  rw [View.canon_unit_zero hz2]
  simp only [View.readAt_eq_ld, h2.read_unread, h5.read_unread, View.ld_unit_zero (S := S100x32x128) hz3, View.ld_unit_zero (S := S8x128) hz2]

/-- Row 0 of the second accumulator, as the last point loads it. -/
def row0 (ag : Vec F S8x128 .i32) : Vec F S1x128 .i32 :=
  View.ld ag (Rect.unit (s := S8x128) ![0, 0] S1x128.size inb_S8x128_S1x128_0_0)

/-- The last point's block of results, from the finished accumulators. -/
def finish (acc : Vec F S1000x128 .i32) (ag : Vec F S1x128 .i32) : FVec F S8x128 .f32 :=
  have v44 := k0_pay2 acc ag
  have v49 := k0_pay3 (F := F)
  k0_pay1 (iota .tc S1x128 32 [1] iota_S1x128_d1_w32) (k0_pay4 acc ag) (k0_pay6 v44 v49 k0_pay5)
    (k0_pay10 (k0_pay8 v44 v49) (k0_pay9 v44 v49) (Scalar.ofBits .f32 0x447A0000#32)) (k0_pay11 v44 v49)
    (k0_pay14 (k0_pay12 v44 v49) (k0_pay13 v44 v49)) (k0_pay15 v44 v49)
    (k0_pay19 v49 (k0_pay16 v44) k0_pay17 k0_pay18) (k0_pay23 (k0_pay21 v44 v49) (k0_pay22 v44 v49))
    (k0_pay24 v44 v49) (k0_pay26 v44 v49) (k0_pay27 v44 v49)

/-- The last point adds its block's counts and leaves the results computed from the two finished accumulators. -/
theorem out_C_2 (c : Dev nD) (i : grid0.Coords) (a1 : Memref sig .tc .vmem S125x8x32x128 .f32) (h1 : a1.IsWhole)
    (a2 : Memref sig .tc .vmem S100x32x128 .f32) (h2 : a2.IsWhole) (a3 : Memref sig .tc .vmem S8x128 .f32) (h3 : a3.IsWhole)
    (a4 : Memref sig .tc .vmem S1000x128 .i32) (h4 : a4.IsWhole) (a5 : Memref sig .tc .vmem S8x128 .i32) (h5 : a5.IsWhole)
    (hc0 : ¬cond0_0 i) (hc1 : cond0_1 i) (x0 : Vec F S125x8x32x128 .f32) (x1 : Vec F S100x32x128 .f32)
    (xs0 : Vec F S1000x128 .i32) (xs1 : Vec F S8x128 .i32) :
    out0_C_2 c i a1 h1 a2 h2 a3 h3 a4 h4 a5 h5 hc0 hc1 x0 x1 xs0 xs1
      = finish (k0_pay31 x0 x1 xs0) (row0 (k0_pay32 x1 xs1)) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz2]
  simp only [View.readAt_eq_ld, h1.read_unread, h2.read_unread, h4.read_unread, h5.read_unread, View.ld_unit_zero (S := S125x8x32x128) hz4, View.ld_unit_zero (S := S100x32x128) hz3, View.ld_unit_zero (S := S1000x128) hz2, View.ld_unit_zero (S := S8x128) hz2, View.readCov_unit_zero (S := S1000x128) _ hz2]
  have hrow : a5.view.readCov [⟨Rect.unit (s := S8x128) ![0, 0] ![8, 128] inb_S8x128_S8x128_0_0, k0_pay32 x1 xs1⟩]
      (Rect.unit (s := S8x128) ![0, 0] ![1, 128] inb_S8x128_S1x128_0_0).toLoadRect = row0 (k0_pay32 x1 xs1) :=
    View.readCov_fill (Val := Elt F) (e := .i32) a5.view inb_S8x128_S8x128_0_0 (k0_pay32 x1 xs1) []
      (Rect.unit (s := S8x128) ![0, 0] ![1, 128] inb_S8x128_S1x128_0_0) (fun a => congrFun hz2 a)
  simp only [hrow]
  rfl

end Cert.KernelIdeal.Body

end
-- ==== Proof.Run.lean ====
/-
  The whole kernel's run: the two accumulators as a fold over the four grid points, the array of results it
  leaves, and the two numbers the host slices out of that array.
-/
module

public import proofs.«01_k».proof.Proof.Body
public import Idealize.ShloMosaic.Lib.StableHlo.Run
public import Idealize.ShloMosaic.Lib.Quiescent
public import Idealize.ShloMosaic.Lib.ValueIdx
public import Idealize.ShloMosaic.Lib.Claim

@[expose] public section

noncomputable section

open Idealize.ShloMosaic Idealize.ShloMosaic.TcCoe Idealize.ShloMosaic.ValueIdx Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

/-- The first accumulator after point `n`. -/
def accs (c : Dev nD) : (n : ℕ) → n < cfg0.N → Vec F S1000x128 .i32
  | 0, h => k0_pay31 (F := F) (iblk m c 0 ⟨0, h⟩) (iblk m c 1 ⟨0, h⟩) k0_pay28
  | n + 1, h => k0_pay31 (F := F) (iblk m c 0 ⟨n + 1, h⟩) (iblk m c 1 ⟨n + 1, h⟩) (accs c n (Nat.lt_of_succ_lt h))

/-- The second accumulator after point `n`. -/
def ags (c : Dev nD) : (n : ℕ) → n < cfg0.N → Vec F S8x128 .i32
  | 0, h => k0_pay32 (F := F) (iblk m c 1 ⟨0, h⟩) k0_pay29
  | n + 1, h => k0_pay32 (F := F) (iblk m c 1 ⟨n + 1, h⟩) (ags c n (Nat.lt_of_succ_lt h))

/-- Before the last point the scratch accumulators hold the folds. -/
theorem outsAt_lt (c : Dev nD) : ∀ (n : ℕ) (h : n < cfg0.N), n < 3 →
    (outsAt0 m c n h).2.1 = accs m c n h ∧ (outsAt0 m c n h).2.2 = ags m c n h
  | 0, h, _ => by
    have e := outsAt0_A m c ⟨0, h⟩ rfl (by show ¬0 % 4 = 3; decide)
    dsimp only at e
    rw [e, sout_A_0, sout_A_1]
    exact ⟨rfl, rfl⟩
  | n + 1, h, h3 => by
    have hN : cfg0.N = 4 := N_0
    have hB : ¬(⟨n + 1, h⟩ : Fin cfg0.N).val % 4 = 0 := by dsimp only; omega
    have hC : ¬(⟨n + 1, h⟩ : Fin cfg0.N).val % 4 = 3 := by dsimp only; omega
    have ih := outsAt_lt c n (Nat.lt_of_succ_lt h) (by omega)
    have e := outsAt0_B m c ⟨n + 1, h⟩ hB hC
    dsimp only at e
    rw [e, sout_B_0, sout_B_1]
    exact ⟨congrArg (k0_pay31 (F := F) (iblk m c 0 ⟨n + 1, h⟩) (iblk m c 1 ⟨n + 1, h⟩)) ih.1,
      congrArg (k0_pay32 (F := F) (iblk m c 1 ⟨n + 1, h⟩)) ih.2⟩

theorem lt3 : 3 < cfg0.N := by rw [show cfg0.N = 4 from N_0]; decide

/-- The array of results. -/
abbrev result (c : Dev nD) : Buf (Elt F) ((c : Thread nD τ).loc main_v1) :=
  finish (F := F) (accs m c 3 lt3) (row0 (F := F) (ags m c 3 lt3))

/-- The last point leaves the block of results. -/
theorem outsAt_last (c : Dev nD) : (outsAt0 m c 3 lt3).1 = result m c := by
  have ih := outsAt_lt m c 2 (Nat.lt_of_succ_lt lt3) (by decide)
  have e := outsAt0_C m c ⟨3, lt3⟩ (by show ¬3 % 4 = 0; decide) rfl
  dsimp only [Nat.reduceSub] at e
  rw [e, out_C_2, ih.1, ih.2]
  rfl

/-- The one write-back, at the last point, writes the array of results. -/
theorem flushed_eq (c : Dev nD) (t : Fin cfg0.N) (hf : (cfg0.win 2).flush t = true) :
    (dats m 0 c).flushed 2 t = ((cfg0.win 2).blk t).view.read (Elt F) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, show (outsAt0 m c t0_3.val t0_3.isLt).1 = result m c from outsAt_last m c]
  have hz' : (fun a => win0_2.index t0_3 a * main_v1.ty.shape.size a) = fun _ => 0 := funext fun a => by fin_cases a <;> decide
  exact (Memref.read_access_unit_zero (Elt F) main_v1 hz' (fun a => by rw [congrFun hz' a]; simp) (result m c)).symm

/-- So the kernel's array ends holding the results. -/
theorem final_o (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v1).slice (win0_2.rect t0_3)).set
      rw [View.set_slice_whole, Rect.mem_set_unit]
      intro a
      have h0 : (i 0 : Nat) < 8 := (i 0).isLt
      have h1 : (i 1 : Nat) < 128 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 8 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 128 from by decide +kernel]; omega⟩

/-- Slicing one element out of the array and dropping its unit axes reads that element. -/
theorem slice_00 (X : Vec F S8x128 .f32) (i : S_.Idx) :
    shapeCast S_ (extractStridedSlice S1x1 ![0, 0] X slices_S8x128_S1x1_0_0) shapeCasts_S1x1_S_ i = X (ix2 0 0) := by
  rw [shapeCast_apply _ _ i (ix2 0 0) (by
    have h1 : (S1x1.rowMajor (ix2 0 0)).val < 1 := (S1x1.rowMajor (ix2 0 0)).isLt
    have h2 : (S_.rowMajor i).val < 1 := (S_.rowMajor i).isLt
    exact (Nat.lt_one_iff.1 h1).trans (Nat.lt_one_iff.1 h2).symm), extractStridedSlice_apply _ _ _ (ix2 0 0) (ix2 0 0) (by decide)]

/-- The same at element (0, 1). -/
theorem slice_01 (X : Vec F S8x128 .f32) (i : S_.Idx) :
    shapeCast S_ (extractStridedSlice S1x1 ![0, 1] X slices_S8x128_S1x1_0_1) shapeCasts_S1x1_S_ i = X (ix2 0 1) := by
  rw [shapeCast_apply _ _ i (ix2 0 0) (by
    have h1 : (S1x1.rowMajor (ix2 0 0)).val < 1 := (S1x1.rowMajor (ix2 0 0)).isLt
    have h2 : (S_.rowMajor i).val < 1 := (S_.rowMajor i).isLt
    exact (Nat.lt_one_iff.1 h1).trans (Nat.lt_one_iff.1 h2).symm), extractStridedSlice_apply _ _ _ (ix2 0 0) (ix2 0 1) (by decide)]

/-- The array the host slices is the array of results. -/
theorem array_eq (c : Dev nD) : Pipeline.withArrays (cfgs 0).spec c (V0 m c) (fun w => (dats m 0 c).arrAt w (cfgs 0).N) (Proc.devRef .tc main_v1)
    = result m c :=
  (Pipeline.withArrays_arr spec0 launch0.win.arr_inj c (V0 m c) (fun w => (dats m 0 c).arrAt w cfg0.N) 2).trans (final_o m c)

/-- What the host reads out of the array of results: element (0, 0), -/
theorem tail_v3 (c : Dev nD) : Pipeline.afterTail₀ cfgs (dats m) 0 (V0 m) [hostOps1] c main_v3
    = fun _ => result m c (ix2 0 0) := by
  unfold Pipeline.afterTail₀
  simp only [List.flatten_cons, List.flatten_nil, List.append_nil]
  after_results
  funext i
  rw [array_eq]
  exact slice_00 (result m c) i

/-- and element (0, 1). -/
theorem tail_v5 (c : Dev nD) : Pipeline.afterTail₀ cfgs (dats m) 0 (V0 m) [hostOps1] c main_v5
    = fun _ => result m c (ix2 0 1) := by
  unfold Pipeline.afterTail₀
  simp only [List.flatten_cons, List.flatten_nil, List.append_nil]
  after_results
  funext i
  rw [array_eq]
  exact slice_01 (result m c) i

/-- The kernel's run: the two numbers are elements (0, 0) and (0, 1) of the array of results. -/
theorem run : θ_run defs (onTc (τ := τ) (main (F := F))) ⟨m, fun _ => 0, ρ⟩ fun r => ∀ c : Dev nD,
      r.2.mem ((c : Thread nD τ).loc main_v3) = (fun _ => result m c (ix2 0 0))
      ∧ r.2.mem ((c : Thread nD τ).loc main_v5) = (fun _ => result m c (ix2 0 1)) :=
  (θ_run defs _ _).mono (fun _ h c =>
    ⟨((h c).2 main_v3 (Pipeline.mem_restRefs_of main_v3 (by decide) (by decide))).trans (tail_v3 m c),
     ((h c).2 main_v5 (Pipeline.mem_restRefs_of main_v5 (by decide) (by decide))).trans (tail_v5 m c)⟩) (run_main m ρ)

end Cert.KernelIdeal.Body

end
-- ==== Proof.Counts.lean ====
/-
  What one grid point adds to the two accumulators: exact counts of set bits in its 4096 lanes.
-/
module

public import proofs.«01_k».proof.Proof.Gen.KernelIdeal.Skeleton
public import Idealize.ShloMosaic.Lib.Pipeline.Value
public import Idealize.ShloMosaic.Lib.IntMxu
public import Idealize.ShloMosaic.Lib.ValueIdx
public import Idealize.ShloMosaic.Lib.Tactic

@[expose] public section

noncomputable section

open Idealize.ShloMosaic Idealize.ShloMosaic.ValueIdx

namespace Cert.Counts

open Cert.KernelIdeal Cert.KernelIdeal.Gen

variable {F : FTy → Type} [FloatOps F]

/-- The bit of a mask element: is it above one half? -/
def bit (x : F .f32) : BitVec 1 := FloatOps.cmpf .ogt x (FloatOps.ofBits .f32 0x3F000000#32)

theorem bit_le (b : BitVec 1) : b.toNat ≤ 1 := Nat.lt_succ_iff.1 b.isLt

theorem toInt_widen (b : BitVec 1) : (b.setWidth 8).toInt = (b.toNat : ℤ) := by revert b; decide

/-- Bit `q` of row `i` of a block of predicted masks. -/
def prow (x : Vec F S125x8x32x128 .f32) (i : Fin 1000) (q : Fin 4096) : ℕ :=
  (bit (F := F) (x (ix4 (⟨i.val / 8, by omega⟩ : Fin 125) (⟨i.val % 8, by omega⟩ : Fin 8) (⟨q.val / 128, by omega⟩ : Fin 32) (⟨q.val % 128, by omega⟩ : Fin 128)))).toNat

/-- Bit `q` of row `j` of the padded block of true masks: 100 rows of bits, 27 rows of zeros, one row of ones. -/
def gcol (x : Vec F S100x32x128 .f32) (j : Fin 128) (q : Fin 4096) : ℕ :=
  if h : j.val < 100 then (bit (F := F) (x (ix3 (⟨j.val, h⟩ : Fin 100) (⟨q.val / 128, by omega⟩ : Fin 32) (⟨q.val % 128, by omega⟩ : Fin 128)))).toNat
  else if j.val = 127 then 1 else 0

theorem prow_le (x : Vec F S125x8x32x128 .f32) (i : Fin 1000) (q : Fin 4096) : prow x i q ≤ 1 := bit_le _

theorem gcol_le (x : Vec F S100x32x128 .f32) (j : Fin 128) (q : Fin 4096) : gcol x j q ≤ 1 := by
  unfold gcol; split
  · exact bit_le _
  · split <;> decide

/-- The widened bits of the predicted block, as the product reads them. -/
theorem prow_apply (x : Vec F S125x8x32x128 .f32) (i : Fin 1000) (q : Fin 4096) :
    (shapeCast S1000x4096 (extui 8 (cmpf .ogt (shapeCast S125x8x32x128 x shapeCasts_S125x8x32x128_S125x8x32x128)
      (broadcast S125x8x32x128 (Scalar.ofBits .f32 0x3F000000#32 : F .f32))) natLt_1_8) shapeCasts_S125x8x32x128_S1000x4096 (ix2 i q)).toInt = (prow x i q : ℤ) := by
  rw [shapeCast_apply _ _ (ix2 i q) (ix4 (⟨i.val / 8, by omega⟩ : Fin 125) (⟨i.val % 8, by omega⟩ : Fin 8) (⟨q.val / 128, by omega⟩ : Fin 32) (⟨q.val % 128, by omega⟩ : Fin 128)) (by
    rw [Shape.rowMajor_val_four, Shape.rowMajor_val_two]
    show ((i.val / 8 * 8 + i.val % 8) * 32 + q.val / 128) * 128 + q.val % 128 = i.val * 4096 + q.val
    omega), shapeCast_self]
  exact toInt_widen _

/-- The padded block of true masks, as the product reads it. -/
theorem gcol_apply (x : Vec F S100x32x128 .f32) (j : Fin 128) (q : Fin 4096) :
    (k0_pay30 x (ix2 j q)).toInt = (gcol x j q : ℤ) := by
  unfold k0_pay30 gcol
  by_cases h : j.val < 100
  · rw [dif_pos h]
    rw [concatenate_apply_piece (t := S128x4096) 0 _ _ (ix2 j q) 0 (by simp) S100x4096 _ rfl rfl 0 (by simp) (ix2 (⟨j.val, h⟩ : Fin 100) q)
      (fun b hb => by match b with | ⟨0, _⟩ => exact absurd rfl hb | ⟨1, _⟩ => rfl) (by show 0 + j.val = j.val; omega)]
    rw [shapeCast_apply _ _ (ix2 (⟨j.val, h⟩ : Fin 100) q) (ix3 (⟨j.val, h⟩ : Fin 100) (⟨q.val / 128, by omega⟩ : Fin 32) (⟨q.val % 128, by omega⟩ : Fin 128)) (by
      rw [Shape.rowMajor_val_three, Shape.rowMajor_val_two]
      show (j.val * 32 + q.val / 128) * 128 + q.val % 128 = j.val * 4096 + q.val
      omega)]
    exact toInt_widen _
  · rw [dif_neg h]
    by_cases h7 : j.val = 127
    · rw [if_pos h7]
      rw [concatenate_apply_piece (t := S128x4096) 0 _ _ (ix2 j q) 2 (by simp) S1x4096 _ rfl rfl 127 (by simp) (ix2 (0 : Fin 1) q)
        (fun b hb => by match b with | ⟨0, _⟩ => exact absurd rfl hb | ⟨1, _⟩ => rfl) (by show 127 + 0 = j.val; omega)]
      rfl
    · rw [if_neg h7]
      rw [concatenate_apply_piece (t := S128x4096) 0 _ _ (ix2 j q) 1 (by simp) S27x4096 _ rfl rfl 100 (by simp) (ix2 (⟨j.val - 100, by omega⟩ : Fin 27) q)
        (fun b hb => by match b with | ⟨0, _⟩ => exact absurd rfl hb | ⟨1, _⟩ => rfl) (by show 100 + (j.val - 100) = j.val; omega)]
      rfl

/-- An 8-bit product over 4096 lanes of operands that are zero or one is the word of its count. -/
theorem product_apply {n : ℕ} (d : DotDims ⟨2, ![n, 4096]⟩ S128x4096 ⟨2, ![n, 128]⟩) (hr : d.contr.rank = 1)
    (hs : d.contr.size ⟨0, by omega⟩ = 4096) (lhs : IVec ⟨2, ![n, 4096]⟩ 8) (rhs : IVec S128x4096 8) (i : Fin n) (j : Fin 128)
    (hl : ∀ q, d.lhsIdx (ix2 i j) ((contrEquiv1 d 4096 hr hs).symm q) = ix2 i q)
    (hrr : ∀ q, d.rhsIdx (ix2 i j) ((contrEquiv1 d 4096 hr hs).symm q) = ix2 j q)
    (a b : Fin 4096 → ℕ) (ha : ∀ q, (lhs (ix2 i q)).toInt = (a q : ℤ)) (hb : ∀ q, (rhs (ix2 j q)).toInt = (b q : ℤ))
    (ha1 : ∀ q, a q ≤ 1) (hb1 : ∀ q, b q ≤ 1) :
    matmulI8 IntMxuNumerics.v7x d lhs rhs (constantI ⟨2, ![n, 128]⟩ 32 0#32) (ix2 i j) = BitVec.ofNat 32 (∑ q, a q * b q) := by
  have hdot : dotI8 d lhs rhs (ix2 i j) = ((∑ q, a q * b q : ℕ) : ℤ) := by
    unfold dotI8
    rw [← Equiv.sum_comp (contrEquiv1 d 4096 hr hs).symm, Nat.cast_sum]
    exact Finset.sum_congr rfl fun q _ => by rw [hl, hrr, ha, hb, Nat.cast_mul]
  have habs : absDotI8 d lhs rhs (ix2 i j) ≤ 4096 := by
    unfold absDotI8
    rw [← Equiv.sum_comp (contrEquiv1 d 4096 hr hs).symm]
    refine (Finset.sum_le_card_nsmul Finset.univ _ 1 fun q _ => ?_).trans (by simp)
    rw [hl, hrr, ha, hb, ← Nat.cast_mul, Int.natAbs_natCast]
    exact Nat.mul_le_mul (ha1 q) (hb1 q)
  rw [matmulI8_exact _ _ _ _ _ _ rfl (habs.trans (by decide)), hdot, BitVec.ofInt_natCast]

/-- One point adds, to element (i, j) of the first accumulator, the number of lanes in which both bits are set. -/
theorem pay31_apply (x0 : Vec F S125x8x32x128 .f32) (x1 : Vec F S100x32x128 .f32) (acc : Vec F S1000x128 .i32) (i : Fin 1000) (j : Fin 128) :
    k0_pay31 (F := F) x0 x1 acc (ix2 i j) = acc (ix2 i j) + BitVec.ofNat 32 (∑ q, prow x0 i q * gcol x1 j q) := by
  unfold k0_pay31
  rw [shapeCast_self]
  refine congrArg (acc (ix2 i j) + ·) ?_
  refine product_apply dot_S1000x4096_S128x4096_S1000x128_1_1_0_0_n_n rfl rfl _ _ i j ?_ ?_ _ _ (prow_apply x0 i) (gcol_apply x1 j) (prow_le x0 i) (gcol_le x1 j)
  · intro q
    have hk := contrEquiv1_symm_val dot_S1000x4096_S128x4096_S1000x128_1_1_0_0_n_n 4096 rfl rfl q
    funext a; apply Fin.ext
    match a with
    | ⟨0, _⟩ => rfl
    | ⟨1, _⟩ => exact hk
  · intro q
    have hk := contrEquiv1_symm_val dot_S1000x4096_S128x4096_S1000x128_1_1_0_0_n_n 4096 rfl rfl q
    funext a; apply Fin.ext
    match a with
    | ⟨0, _⟩ => rfl
    | ⟨1, _⟩ => exact hk

/-- One point adds, to column j of the second accumulator, the number of set bits of row j. -/
theorem pay32_apply (x1 : Vec F S100x32x128 .f32) (ag : Vec F S8x128 .i32) (i : Fin 8) (j : Fin 128) :
    k0_pay32 (F := F) x1 ag (ix2 i j) = ag (ix2 i j) + BitVec.ofNat 32 (∑ q, gcol x1 j q) := by
  unfold k0_pay32
  rw [shapeCast_self]
  refine congrArg (ag (ix2 i j) + ·) ?_
  refine (product_apply dot_S8x4096_S128x4096_S8x128_1_1_0_0_n_n rfl rfl _ _ i j ?_ ?_ (fun _ => 1) _ (fun _ => rfl) (gcol_apply x1 j) (fun _ => le_rfl) (gcol_le x1 j)).trans
    (congrArg (BitVec.ofNat 32) (Finset.sum_congr rfl fun q _ => Nat.one_mul _))
  · intro q
    have hk := contrEquiv1_symm_val dot_S8x4096_S128x4096_S8x128_1_1_0_0_n_n 4096 rfl rfl q
    funext a; apply Fin.ext
    match a with
    | ⟨0, _⟩ => rfl
    | ⟨1, _⟩ => exact hk
  · intro q
    have hk := contrEquiv1_symm_val dot_S8x4096_S128x4096_S8x128_1_1_0_0_n_n 4096 rfl rfl q
    funext a; apply Fin.ext
    match a with
    | ⟨0, _⟩ => rfl
    | ⟨1, _⟩ => exact hk

end Cert.Counts

end
-- ==== Proof.Spec.lean ====
/-
  What both programs compute, in plain sums: the bits of the masks, how many pixels two masks share, and the areas.
-/
module

public import proofs.«01_k».proof.Proof.Counts

@[expose] public section

noncomputable section

open Idealize.ShloMosaic Idealize.ShloMosaic.ValueIdx

namespace Cert.Spec

variable {F : FTy → Type} [FloatOps F]

open Cert.Counts

/-- Pixel `k` (row-major) of predicted mask `i`, as a number. -/
def P (A : FVec F ⟨3, ![1000, 128, 128]⟩ .f32) (i : Fin 1000) (k : Fin 16384) : ℕ :=
  (bit (F := F) (A (ix3 i (⟨k.val / 128, by omega⟩ : Fin 128) (⟨k.val % 128, by omega⟩ : Fin 128)))).toNat

/-- Pixel `k` (row-major) of true mask `j`, as a number. -/
def G (A : FVec F ⟨3, ![100, 128, 128]⟩ .f32) (j : Fin 100) (k : Fin 16384) : ℕ :=
  (bit (F := F) (A (ix3 j (⟨k.val / 128, by omega⟩ : Fin 128) (⟨k.val % 128, by omega⟩ : Fin 128)))).toNat

theorem P_le (A : FVec F ⟨3, ![1000, 128, 128]⟩ .f32) (i : Fin 1000) (k : Fin 16384) : P A i k ≤ 1 := bit_le _
theorem G_le (A : FVec F ⟨3, ![100, 128, 128]⟩ .f32) (j : Fin 100) (k : Fin 16384) : G A j k ≤ 1 := bit_le _

/-- The pixels two masks share, and each mask's own. -/
def inter (A : FVec F ⟨3, ![1000, 128, 128]⟩ .f32) (B : FVec F ⟨3, ![100, 128, 128]⟩ .f32) (i : Fin 1000) (j : Fin 100) : ℕ :=
  ∑ k, P A i k * G B j k
def areaP (A : FVec F ⟨3, ![1000, 128, 128]⟩ .f32) (i : Fin 1000) : ℕ := ∑ k, P A i k
def areaG (B : FVec F ⟨3, ![100, 128, 128]⟩ .f32) (j : Fin 100) : ℕ := ∑ k, G B j k

/-- Row `j` of the true masks padded to 128 rows: zeros from row 100 on, and a last row of ones. -/
def Gpad (B : FVec F ⟨3, ![100, 128, 128]⟩ .f32) (j : Fin 128) (k : Fin 16384) : ℕ :=
  if h : j.val < 100 then G B ⟨j.val, h⟩ k else if j.val = 127 then 1 else 0

theorem Gpad_le (B : FVec F ⟨3, ![100, 128, 128]⟩ .f32) (j : Fin 128) (k : Fin 16384) : Gpad B j k ≤ 1 := by
  unfold Gpad; split
  · exact G_le _ _ _
  · split <;> decide

/-- A sum over the pixels is the sum over four bands of 4096. -/
theorem sum_bands (f : Fin 16384 → ℕ) : ∑ k, f k = ∑ t : Fin 4, ∑ q : Fin 4096, f ⟨4096 * t.val + q.val, by omega⟩ := by
  rw [← Equiv.sum_comp (finProdFinEquiv (m := 4) (n := 4096)) f, Fintype.sum_prod_type]
  refine Finset.sum_congr rfl fun t _ => Finset.sum_congr rfl fun q _ => congrArg f (Fin.ext ?_)
  show q.val + 4096 * t.val = 4096 * t.val + q.val
  omega

/-- A count of pixels is at most 16384. -/
theorem sum_le (f : Fin 16384 → ℕ) (h : ∀ k, f k ≤ 1) : ∑ k, f k ≤ 16384 :=
  (Finset.sum_le_card_nsmul Finset.univ f 1 fun k _ => h k).trans (by simp)

/-- A word of a count of pixels, read signed, is the count. -/
theorem toInt_count (n : ℕ) (h : n ≤ 16384) : (BitVec.ofNat 32 n).toInt = (n : ℤ) := by
  rw [BitVec.toInt_eq_toNat_cond, BitVec.toNat_ofNat, Nat.mod_eq_of_lt (by omega), if_pos (by omega)]

end Cert.Spec

end
-- ==== Proof.Totals.lean ====
/-
  What the two accumulators hold after the last grid point: the counts over the whole masks.
-/
module

public import proofs.«01_k».proof.Proof.Run
public import proofs.«01_k».proof.Proof.Spec

@[expose] public section

noncomputable section

open Idealize.ShloMosaic Idealize.ShloMosaic.TcCoe Idealize.ShloMosaic.ValueIdx Idealize.SL.Sem

namespace Cert.KernelIdeal.Body

open Cert.KernelIdeal Cert.KernelIdeal.Gen Cert.Counts Cert.Spec

variable {F : FTy → Type} [FloatOps F]
variable (m : (ℓ : Loc nD τ sig) → Buf (Elt F) ℓ)

/-- The predicted masks and the true masks, as launched. -/
abbrev A0 (c : Dev nD) : FVec F ⟨3, ![1000, 128, 128]⟩ .f32 := m ((c : Thread nD τ).loc main_arg0)
abbrev A1 (c : Dev nD) : FVec F ⟨3, ![100, 128, 128]⟩ .f32 := m ((c : Thread nD τ).loc main_arg1)

/-- The region finds the predicted masks with their first axis split in 125 groups of 8. -/
theorem V_main_v0 (c : Dev nD) : V m c main_v0 = shapeCast S125x8x128x128 (A0 m c) shapeCasts_S1000x128x128_S125x8x128x128 := by
  show StableHlo.after (List.flatten [hostOps0]) (fun b => m (c, b)) (Proc.devRef .tc main_v0) = _
  simp only [List.flatten_cons, List.flatten_nil, List.append_nil]
  after_results
  rfl

theorem index0 : ∀ t : Fin grid0.N, win0_0.index t 0 = 0 ∧ win0_0.index t 1 = 0 ∧ win0_0.index t 2 = t.val ∧ win0_0.index t 3 = 0 := by
  decide +kernel
theorem index1 : ∀ t : Fin grid0.N, win0_1.index t 0 = 0 ∧ win0_1.index t 1 = t.val ∧ win0_1.index t 2 = 0 := by
  decide +kernel

/-- Point `t`'s block of predicted masks is rows 32t … 32t+31 of each. -/
theorem iblk0_apply (c : Dev nD) (t : Fin cfg0.N) (ht : t.val < 4) (a : Fin 125) (b : Fin 8) (r : Fin 32) (l : Fin 128) :
    iblk m c 0 t (ix4 a b r l) = A0 m c (ix3 (⟨8 * a.val + b.val, by omega⟩ : Fin 1000) (⟨32 * t.val + r.val, by omega⟩ : Fin 128) l) := by
  have h := index0 t
  show V m c main_v0 ((win0_0.rect t).emb (ix4 a b r l)) = _
  rw [V_main_v0, shapeCast_apply _ _ _ (ix3 (⟨8 * a.val + b.val, by omega⟩ : Fin 1000) (⟨32 * t.val + r.val, by omega⟩ : Fin 128) l)]
  have e0 : ((win0_0.rect t).emb (ix4 a b r l) 0 : ℕ) = a.val :=
    (Pipeline.Window.rect_emb_val win0_0 t (ix4 a b r l) 0).trans (by rw [h.1]; show 0 * 125 + a.val = a.val; omega)
  have e1 : ((win0_0.rect t).emb (ix4 a b r l) 1 : ℕ) = b.val :=
    (Pipeline.Window.rect_emb_val win0_0 t (ix4 a b r l) 1).trans (by rw [h.2.1]; show 0 * 8 + b.val = b.val; omega)
  have e2 : ((win0_0.rect t).emb (ix4 a b r l) 2 : ℕ) = 32 * t.val + r.val :=
    (Pipeline.Window.rect_emb_val win0_0 t (ix4 a b r l) 2).trans (by rw [h.2.2.1]; show t.val * 32 + r.val = 32 * t.val + r.val; omega)
  have e3 : ((win0_0.rect t).emb (ix4 a b r l) 3 : ℕ) = l.val :=
    (Pipeline.Window.rect_emb_val win0_0 t (ix4 a b r l) 3).trans (by rw [h.2.2.2]; show 0 * 128 + l.val = l.val; omega)
  refine (Shape.rowMajor_val_three _).trans (.trans ?_ (Shape.rowMajor_val_four _).symm)
  rw [e0, e1, e2, e3]
  show ((8 * a.val + b.val) * 128 + (32 * t.val + r.val)) * 128 + l.val = ((a.val * 8 + b.val) * 128 + (32 * t.val + r.val)) * 128 + l.val
  omega

/-- Point `t`'s block of true masks is rows 32t … 32t+31 of each. -/
theorem iblk1_apply (c : Dev nD) (t : Fin cfg0.N) (ht : t.val < 4) (a : Fin 100) (r : Fin 32) (l : Fin 128) :
    iblk m c 1 t (ix3 a r l) = A1 m c (ix3 a (⟨32 * t.val + r.val, by omega⟩ : Fin 128) l) := by
  have h := index1 t
  show V m c main_arg1 ((win0_1.rect t).emb (ix3 a r l)) = _
  rw [V_main_arg1]
  refine congrArg (A1 m c) (funext fun d => Fin.ext ?_)
  refine (Pipeline.Window.rect_emb_val win0_1 t (ix3 a r l) d).trans ?_
  match d with
  | ⟨0, _⟩ => show win0_1.index t 0 * 100 + a.val = a.val; rw [h.1]; omega
  | ⟨1, _⟩ => show win0_1.index t 1 * 32 + r.val = 32 * t.val + r.val; rw [h.2.1]; omega
  | ⟨2, _⟩ => show win0_1.index t 2 * 128 + l.val = l.val; rw [h.2.2]; omega

/-- Lane `q` of point `t` is pixel 4096t + q. -/
theorem prow_band (c : Dev nD) (t : Fin cfg0.N) (ht : t.val < 4) (i : Fin 1000) (q : Fin 4096) :
    prow (F := F) (iblk m c 0 t) i q = P (A0 m c) i ⟨4096 * t.val + q.val, by omega⟩ := by
  unfold prow P
  rw [iblk0_apply m c t ht]
  refine congrArg (fun x => (bit (F := F) (A0 m c x)).toNat) (funext fun d => Fin.ext ?_)
  match d with
  | ⟨0, _⟩ => show 8 * (i.val / 8) + i.val % 8 = i.val; omega
  | ⟨1, _⟩ => show 32 * t.val + q.val / 128 = (4096 * t.val + q.val) / 128; omega
  | ⟨2, _⟩ => show q.val % 128 = (4096 * t.val + q.val) % 128; omega

theorem gcol_band (c : Dev nD) (t : Fin cfg0.N) (ht : t.val < 4) (j : Fin 128) (q : Fin 4096) :
    gcol (F := F) (iblk m c 1 t) j q = Gpad (A1 m c) j ⟨4096 * t.val + q.val, by omega⟩ := by
  unfold gcol Gpad
  by_cases h : j.val < 100
  · rw [dif_pos h, dif_pos h]
    unfold G
    rw [iblk1_apply m c t ht]
    refine congrArg (fun x => (bit (F := F) (A1 m c x)).toNat) (funext fun d => Fin.ext ?_)
    match d with
    | ⟨0, _⟩ => rfl
    | ⟨1, _⟩ => show 32 * t.val + q.val / 128 = (4096 * t.val + q.val) / 128; omega
    | ⟨2, _⟩ => show q.val % 128 = (4096 * t.val + q.val) % 128; omega
  · rw [dif_neg h, dif_neg h]

/-- The first accumulator ends with, at (i, j), the pixels predicted mask i shares with padded true mask j. -/
theorem accs_total (c : Dev nD) (i : Fin 1000) (j : Fin 128) :
    accs m c 3 lt3 (ix2 i j) = BitVec.ofNat 32 (∑ k, P (A0 m c) i k * Gpad (A1 m c) j k) := by
  have step : ∀ (t : Fin cfg0.N) (ht : t.val < 4) (x : Vec F S1000x128 .i32),
      k0_pay31 (F := F) (iblk m c 0 t) (iblk m c 1 t) x (ix2 i j)
        = x (ix2 i j) + BitVec.ofNat 32 (∑ q : Fin 4096, P (A0 m c) i ⟨4096 * t.val + q.val, by omega⟩ * Gpad (A1 m c) j ⟨4096 * t.val + q.val, by omega⟩) := fun t ht x => by
    rw [pay31_apply]
    exact congrArg (fun n => x (ix2 i j) + BitVec.ofNat 32 n) (Finset.sum_congr rfl fun q _ => by rw [prow_band m c t ht, gcol_band m c t ht])
  rw [sum_bands, Fin.sum_univ_four, BitVec.ofNat_add, BitVec.ofNat_add, BitVec.ofNat_add]
  simp only [accs]
  rw [step ⟨3, _⟩ (by decide), step ⟨2, _⟩ (by decide), step ⟨1, _⟩ (by decide), step ⟨0, _⟩ (by decide)]
  have h0 : k0_pay28 (ix2 i j) = 0#32 := by unfold k0_pay28; rw [shapeCast_self]; rfl
  rw [h0, BitVec.zero_add]
  rfl

/-- The second ends with, in column j, the pixels of padded true mask j. -/
theorem ags_total (c : Dev nD) (i : Fin 8) (j : Fin 128) :
    ags m c 3 lt3 (ix2 i j) = BitVec.ofNat 32 (∑ k, Gpad (A1 m c) j k) := by
  have step : ∀ (t : Fin cfg0.N) (ht : t.val < 4) (x : Vec F S8x128 .i32),
      k0_pay32 (F := F) (iblk m c 1 t) x (ix2 i j)
        = x (ix2 i j) + BitVec.ofNat 32 (∑ q : Fin 4096, Gpad (A1 m c) j ⟨4096 * t.val + q.val, by omega⟩) := fun t ht x => by
    rw [pay32_apply]
    exact congrArg (fun n => x (ix2 i j) + BitVec.ofNat 32 n) (Finset.sum_congr rfl fun q _ => by rw [gcol_band m c t ht])
  rw [sum_bands, Fin.sum_univ_four, BitVec.ofNat_add, BitVec.ofNat_add, BitVec.ofNat_add]
  simp only [ags]
  rw [step ⟨3, _⟩ (by decide), step ⟨2, _⟩ (by decide), step ⟨1, _⟩ (by decide), step ⟨0, _⟩ (by decide)]
  have h0 : k0_pay29 (ix2 i j) = 0#32 := by unfold k0_pay29; rw [shapeCast_self]; rfl
  rw [h0, BitVec.zero_add]
  rfl

/-- Row 0 of the second, as loaded. -/
theorem row0_total (c : Dev nD) (j : Fin 128) :
    row0 (ags m c 3 lt3) (ix2 0 j) = BitVec.ofNat 32 (∑ k, Gpad (A1 m c) j k) := by
  rw [← ags_total m c 0 j]
  show ags m c 3 lt3 _ = _
  refine congrArg (ags m c 3 lt3) (funext fun d => Fin.ext ?_)
  match d with
  | ⟨0, _⟩ => rfl
  | ⟨1, _⟩ => show 0 + 1 * j.val = j.val; omega

end Cert.KernelIdeal.Body

end
-- ==== Proof.Score.lean ====
/-
  The scores both programs compute from the shared-pixel counts, over the extended reals: the ratio of two masks, the
  number of masks with a match, the precision at one threshold and the mean over ten; and three small facts about
  maxima and disjunctions of zeros and ones.
-/
module

public import proofs.«01_k».proof.Proof.Spec
public import Idealize.ShloMosaic.Lib.IdealHost
public import Idealize.ShloMosaic.PureOps.Ideal.Laws

@[expose] public section

noncomputable section

open Idealize.ShloMosaic
open scoped Classical

namespace Cert.Score

/-- A count as an extended real. -/
def num (n : ℕ) : EReal := ((n : ℝ) : EReal)

/-- The ratio of shared to covered pixels. -/
def ratio (shared ap ag : ℕ) : EReal :=
  Ideal.div (num shared) (max (num ap + num ag - num shared) (Ideal.ofBits .f32 0x3089705F#32))

/-- The true masks some predicted mask matches, and the predicted masks that match some true mask. -/
def found (H : Fin 1000 → Fin 100 → Prop) : EReal := ∑ j : Fin 100, if ∃ i, H i j then (1 : EReal) else 0
def used (H : Fin 1000 → Fin 100 → Prop) : EReal := ∑ i : Fin 1000, if ∃ j, H i j then (1 : EReal) else 0

/-- The precision from the two counts. -/
def prec (tp mt : EReal) : EReal :=
  Ideal.div tp (max (tp + (Ideal.ofBits .f32 0x447A0000#32 - mt) + (Ideal.ofBits .f32 0x42C80000#32 - tp)) (Ideal.ofBits .f32 0x3089705F#32))

/-- The ten threshold words. -/
def word : Fin 10 → BitVec 32 :=
  ![0x3F000000#32, 0x3F0CCCCD#32, 0x3F19999A#32, 0x3F266666#32, 0x3F333333#32, 0x3F400000#32, 0x3F4CCCCD#32, 0x3F59999A#32, 0x3F666666#32, 0x3F733333#32]

/-- The pairs matched at a threshold word. -/
def matched (R : Fin 1000 → Fin 100 → EReal) (t : BitVec 32) (i : Fin 1000) (j : Fin 100) : Prop := Ideal.ofBits .f32 t < R i j

/-- The precision at a threshold word, from the ratios. -/
def score (R : Fin 1000 → Fin 100 → EReal) (t : BitVec 32) : EReal := prec (found (matched R t)) (used (matched R t))

/-- The mean of ten scores. -/
def mean (p : Fin 10 → EReal) : EReal := Ideal.div (∑ n, p n) (Ideal.ofBits .f32 0x41200000#32)

/-- The mean, as a sum from the left that starts at the word of zero. -/
theorem mean_eq (p : Fin 10 → EReal) : mean p = Ideal.div (Ideal.ofBits .f32 0x00000000#32 + p 0 + p 1 + p 2 + p 3 + p 4 + p 5 + p 6 + p 7 + p 8 + p 9)
    (Ideal.ofBits .f32 0x41200000#32) := by
  unfold mean
  rw [Fin.sum_univ_castSucc, Fin.sum_univ_castSucc, Fin.sum_univ_eight, Ideal.ofBits_zero_f32, zero_add]
  rfl

variable (A : FVec Ideal ⟨3, ![1000, 128, 128]⟩ .f32) (B : FVec Ideal ⟨3, ![100, 128, 128]⟩ .f32)

/-- The ratios of all pairs of masks. -/
def ratios (i : Fin 1000) (j : Fin 100) : EReal := ratio (Spec.inter A B i j) (Spec.areaP A i) (Spec.areaG B j)

/-- The word of minus infinity is the least extended real. -/
theorem ofBits_bot : Ideal.ofBits .f32 0xFF800000#32 = ⊥ := by simp [Ideal.ofBits, Ideal.ieee]

/-- The maximum of finitely many zeros and ones, at least one of them, says whether one is a one. -/
theorem fold_max_ite {n : ℕ} (p : Fin (n + 1) → Prop) :
    Finset.fold max (Ideal.ofBits .f32 0xFF800000#32) (fun k => if p k then (1 : EReal) else 0) Finset.univ = if ∃ k, p k then 1 else 0 := by
  rw [ofBits_bot]
  refine le_antisymm ((Finset.fold_max_le _).2 ⟨bot_le, fun k _ => ?_⟩) (Finset.le_fold_max _ |>.2 (Or.inr ?_))
  · by_cases h : p k
    · rw [if_pos h, if_pos ⟨k, h⟩]
    · rw [if_neg h]; split
      · exact zero_le_one
      · exact le_rfl
  · by_cases h : ∃ k, p k
    · obtain ⟨k, hk⟩ := h
      exact ⟨k, Finset.mem_univ _, by rw [if_pos hk, if_pos ⟨k, hk⟩]⟩
    · exact ⟨0, Finset.mem_univ _, by rw [if_neg h, if_neg fun h0 => h ⟨0, h0⟩]⟩

/-- The disjunction of finitely many bits, as a number, says whether one is set. -/
theorem fold_or_toNat {ι : Type} (s : Finset ι) (b : ι → BitVec 1) :
    ((Finset.fold IntOp.ori (0#1) b s).toNat : ℝ) = if ∃ k ∈ s, b k = 1#1 then 1 else 0 := by
  have key : Finset.fold IntOp.ori (0#1) b s = if ∃ k ∈ s, b k = 1#1 then 1#1 else 0#1 := by
    induction s using Finset.induction_on with
    | empty => simp
    | insert a s ha ih =>
      rw [Finset.fold_insert ha, ih]
      rcases (by decide : ∀ x : BitVec 1, x = 0#1 ∨ x = 1#1) (b a) with h | h
      · have e : (∃ k ∈ insert a s, b k = 1#1) ↔ ∃ k ∈ s, b k = 1#1 := by simp [h]
        rw [if_congr e rfl rfl, h]
        split <;> rfl
      · have e : ∃ k ∈ insert a s, b k = 1#1 := ⟨a, Finset.mem_insert_self _ _, h⟩
        rw [if_pos e, h]
        split <;> rfl
  rw [key]
  split <;> simp

end Cert.Score

end
-- ==== Proof.Finish.lean ====
/-
  The last grid point's results from the two finished accumulators: the precision at each threshold, and their mean.
-/
module

public import proofs.«01_k».proof.Proof.Body
public import proofs.«01_k».proof.Proof.Score
public import Idealize.ShloMosaic.Lib.Pointwise

@[expose] public section

noncomputable section

open Idealize.ShloMosaic

namespace Cert.Finish

open Cert.KernelIdeal Cert.KernelIdeal.Gen Cert.KernelIdeal.Body
open Cert.Score hiding prec
open scoped Classical

/-- The masked hits of one threshold word: one where the ratio is above it and the column is a true mask, else zero. -/
def hits (t : BitVec 32) (v44 : FVec Ideal S1000x128 .f32) (v49 : FVec Ideal S1x128 .f32) : FVec Ideal S1000x128 .f32 :=
  mulf (select (cmpf .ogt v44 (broadcast S1000x128 (Scalar.ofBits .f32 t : Ideal .f32))) (broadcast S1000x128 (Scalar.ofBits .f32 0x3F800000#32 : Ideal .f32))
    (broadcast S1000x128 (Scalar.ofBits .f32 0x00000000#32 : Ideal .f32))) (broadcastTo S1000x128 v49 broadcasts_S1x128_S1000x128)

/-- The number of columns with a hit, as the kernel sums it. -/
def colCount (B : FVec Ideal S1000x128 .f32) : Ideal .f32 :=
  extractAt ![0, 0, 0] (shapeCast S1x1x1 (multiReduction .add [1, 2] S1 (shapeCast S1x1x128 (shapeCast S1x128
    (multiReduction .maximumf [0] S128 B 0xFF800000#32 reduces_S1000x128_S128 (.inl rfl) rfl) shapeCasts_S128_S1x128) shapeCasts_S1x128_S1x1x128)
    0x00000000#32 reduces_S1x1x128_S1 (.inl rfl) rfl) shapeCasts_S1_S1x1x1) inpos_S1x1x1_p0_0_0

/-- The number of rows with a hit, as the kernel sums it. -/
def rowCount (B : FVec Ideal S1000x128 .f32) : Ideal .f32 :=
  extractAt ![0, 0, 0] (shapeCast S1x1x1 (multiReduction .add [1, 2] S1 (shapeCast S1x1000x1 (shapeCast S1000x1
    (multiReduction .maximumf [1] S1000 B 0xFF800000#32 reduces_S1000x128_S1000 (.inl rfl) rfl) shapeCasts_S1000_S1000x1) shapeCasts_S1000x1_S1x1000x1)
    0x00000000#32 reduces_S1x1000x1_S1 (.inl rfl) rfl) shapeCasts_S1_S1x1x1) inpos_S1x1x1_p0_0_0

/-- Precision from the two counts. -/
def precOf (tp mt : Ideal .f32) : Ideal .f32 :=
  Scalar.divf tp (Scalar.maximumf (Scalar.addf (Scalar.addf tp (Scalar.subf (Scalar.ofBits .f32 0x447A0000#32) mt)) (Scalar.subf (Scalar.ofBits .f32 0x42C80000#32) tp))
    (Scalar.ofBits .f32 0x3089705F#32))

/-- The kernel's precision at one threshold word. -/
def prec (t : BitVec 32) (v44 : FVec Ideal S1000x128 .f32) (v49 : FVec Ideal S1x128 .f32) : Ideal .f32 :=
  precOf (colCount (hits t v44 v49)) (rowCount (hits t v44 v49))

variable (acc : Vec Ideal S1000x128 .i32) (ag : Vec Ideal S1x128 .i32) (v44 : FVec Ideal S1000x128 .f32) (v49 : FVec Ideal S1x128 .f32)

/-! Each of the kernel's ten precisions is that, at its own word. -/

theorem prec0 : k0_pay4 (F := Ideal) acc ag = prec 0x3F000000#32 (k0_pay2 acc ag) k0_pay3 := rfl
theorem prec1 : k0_pay6 (F := Ideal) v44 v49 k0_pay5 = prec 0x3F0CCCCD#32 v44 v49 := rfl
theorem prec2 : k0_pay10 (F := Ideal) (k0_pay8 v44 v49) (k0_pay9 v44 v49) (Scalar.ofBits .f32 0x447A0000#32) = prec 0x3F19999A#32 v44 v49 := rfl
theorem prec3 : k0_pay11 (F := Ideal) v44 v49 = prec 0x3F266666#32 v44 v49 := rfl
theorem prec4 : k0_pay14 (F := Ideal) (k0_pay12 v44 v49) (k0_pay13 v44 v49) = prec 0x3F333333#32 v44 v49 := rfl
theorem prec5 : k0_pay15 (F := Ideal) v44 v49 = prec 0x3F400000#32 v44 v49 := rfl
theorem prec6 : k0_pay19 (F := Ideal) v49 (k0_pay16 v44) k0_pay17 k0_pay18 = prec 0x3F4CCCCD#32 v44 v49 := rfl
theorem prec7 : k0_pay23 (F := Ideal) (k0_pay21 v44 v49) (k0_pay22 v44 v49) = prec 0x3F59999A#32 v44 v49 := rfl
theorem prec8 : k0_pay24 (F := Ideal) v44 v49 = prec 0x3F666666#32 v44 v49 := rfl

theorem prec9 : Scalar.divf (k0_pay26 (F := Ideal) v44 v49) (Scalar.maximumf (Scalar.addf (Scalar.addf (k0_pay26 v44 v49)
    (Scalar.subf (Scalar.ofBits .f32 0x447A0000#32) (extractAt ![0, 0, 0] (shapeCast S1x1x1 (multiReduction .add [1, 2] S1 (k0_pay27 v44 v49) 0x00000000#32
      reduces_S1x1000x1_S1 (.inl rfl) rfl) shapeCasts_S1_S1x1x1) inpos_S1x1x1_p0_0_0))) (Scalar.subf (Scalar.ofBits .f32 0x42C80000#32) (k0_pay26 v44 v49)))
    (Scalar.ofBits .f32 0x3089705F#32)) = prec 0x3F733333#32 v44 v49 := rfl

/-- Lane 0 of the block of results is the first scalar, and lane 1 the second. -/
theorem lane0 (p q : Ideal .f32) :
    broadcastTo S8x128 (shapeCast S1x128 (select (cmpi .eq (iota .tc S1x128 32 [1] iota_S1x128_d1_w32) (broadcast S1x128 0#32)) (broadcast S1x128 p)
      (select (cmpi .eq (iota .tc S1x128 32 [1] iota_S1x128_d1_w32) (broadcast S1x128 1#32)) (broadcast S1x128 q)
        (broadcast S1x128 (Scalar.ofBits .f32 0x00000000#32 : Ideal .f32)))) shapeCasts_S1x128_S1x128) broadcasts_S1x128_S8x128 (ValueIdx.ix2 0 0) = p := by
  rw [broadcastTo_apply _ _ (ValueIdx.ix2 0 0) (ValueIdx.ix2 0 0) (by decide), shapeCast_self]
  rfl

theorem lane1 (p q : Ideal .f32) :
    broadcastTo S8x128 (shapeCast S1x128 (select (cmpi .eq (iota .tc S1x128 32 [1] iota_S1x128_d1_w32) (broadcast S1x128 0#32)) (broadcast S1x128 p)
      (select (cmpi .eq (iota .tc S1x128 32 [1] iota_S1x128_d1_w32) (broadcast S1x128 1#32)) (broadcast S1x128 q)
        (broadcast S1x128 (Scalar.ofBits .f32 0x00000000#32 : Ideal .f32)))) shapeCasts_S1x128_S1x128) broadcasts_S1x128_S8x128 (ValueIdx.ix2 0 1) = q := by
  rw [broadcastTo_apply _ _ (ValueIdx.ix2 0 1) (ValueIdx.ix2 0 1) (by decide), shapeCast_self]
  rfl

/-- Its first result is the precision at the first threshold, -/
theorem finish_00 : finish (F := Ideal) acc ag (ValueIdx.ix2 0 0) = prec (word 0) (k0_pay2 acc ag) k0_pay3 := by
  unfold finish k0_pay1
  rw [lane0]
  exact prec0 acc ag

/-- The ten words one by one. -/
theorem word_0 : word 0 = 0x3F000000#32 := rfl
theorem word_1 : word 1 = 0x3F0CCCCD#32 := rfl
theorem word_2 : word 2 = 0x3F19999A#32 := rfl
theorem word_3 : word 3 = 0x3F266666#32 := rfl
theorem word_4 : word 4 = 0x3F333333#32 := rfl
theorem word_5 : word 5 = 0x3F400000#32 := rfl
theorem word_6 : word 6 = 0x3F4CCCCD#32 := rfl
theorem word_7 : word 7 = 0x3F59999A#32 := rfl
theorem word_8 : word 8 = 0x3F666666#32 := rfl
theorem word_9 : word 9 = 0x3F733333#32 := rfl

/-- The mean of ten given scalars, as the kernel's scalar operations form it. -/
theorem mean_pieces (p : Fin 10 → EReal) (a0 a1 a2 a3 a4 a5 a6 a7 a8 a9 : Ideal .f32) (h0 : a0 = p 0) (h1 : a1 = p 1) (h2 : a2 = p 2) (h3 : a3 = p 3)
    (h4 : a4 = p 4) (h5 : a5 = p 5) (h6 : a6 = p 6) (h7 : a7 = p 7) (h8 : a8 = p 8) (h9 : a9 = p 9) :
    Scalar.divf (Scalar.addf (Scalar.addf (Scalar.addf (Scalar.addf (Scalar.addf (Scalar.addf (Scalar.addf (Scalar.addf (Scalar.addf (Scalar.addf
      (Scalar.ofBits .f32 0x00000000#32) a0) a1) a2) a3) a4) a5) a6) a7) a8) a9) (Scalar.ofBits .f32 0x41200000#32) = mean p := by
  rw [mean_eq, ← h0, ← h1, ← h2, ← h3, ← h4, ← h5, ← h6, ← h7, ← h8, ← h9]
  rfl

/-- The second lane of the last payload: the mean of nine given precisions and the tenth, which it forms itself. -/
theorem pay1_01 (v74 v99 v124 v149 v174 v199 v224 v249 v274 v287 : Ideal .f32) (v290 : FVec Ideal S1x1000x1 .f32) :
    k0_pay1 (iota .tc S1x128 32 [1] iota_S1x128_d1_w32) v74 v99 v124 v149 v174 v199 v224 v249 v274 v287 v290 (ValueIdx.ix2 0 1)
      = Scalar.divf (Scalar.addf (Scalar.addf (Scalar.addf (Scalar.addf (Scalar.addf (Scalar.addf (Scalar.addf (Scalar.addf (Scalar.addf (Scalar.addf
      (Scalar.ofBits .f32 0x00000000#32) v74) v99) v124) v149) v174) v199) v224) v249) v274)
      (Scalar.divf v287 (Scalar.maximumf (Scalar.addf (Scalar.addf v287 (Scalar.subf (Scalar.ofBits .f32 0x447A0000#32)
        (extractAt ![0, 0, 0] (shapeCast S1x1x1 (multiReduction .add [1, 2] S1 v290 0x00000000#32 reduces_S1x1000x1_S1 (.inl rfl) rfl) shapeCasts_S1_S1x1x1)
          inpos_S1x1x1_p0_0_0))) (Scalar.subf (Scalar.ofBits .f32 0x42C80000#32) v287)) (Scalar.ofBits .f32 0x3089705F#32))))
      (Scalar.ofBits .f32 0x41200000#32) := by
  unfold k0_pay1
  exact lane1 _ _

/-- and its second the mean of the ten precisions. -/
theorem finish_01 : finish (F := Ideal) acc ag (ValueIdx.ix2 0 1) = mean (fun n => prec (word n) (k0_pay2 acc ag) k0_pay3) := by
  have hp : ∀ (n : Fin 10) (t : BitVec 32), word n = t → prec t (k0_pay2 acc ag) k0_pay3 = prec (word n) (k0_pay2 acc ag) k0_pay3 :=
    fun n t h => by rw [h]
  unfold finish
  rw [pay1_01]
  exact mean_pieces _ _ _ _ _ _ _ _ _ _ _
    ((prec0 acc ag).trans (hp 0 _ word_0)) ((prec1 _ _).trans (hp 1 _ word_1)) ((prec2 _ _).trans (hp 2 _ word_2))
    ((prec3 _ _).trans (hp 3 _ word_3)) ((prec4 _ _).trans (hp 4 _ word_4)) ((prec5 _ _).trans (hp 5 _ word_5))
    ((prec6 _ _).trans (hp 6 _ word_6)) ((prec7 _ _).trans (hp 7 _ word_7)) ((prec8 _ _).trans (hp 8 _ word_8))
    ((prec9 _ _).trans (hp 9 _ word_9))

/-- The row matches the column: a true mask's column, and the ratio above the threshold. -/
def Hit (t : BitVec 32) (v44 : FVec Ideal S1000x128 .f32) (i : Fin 1000) (j : Fin 128) : Prop :=
  j.val < 100 ∧ Ideal.ofBits .f32 t < v44 (ix2 i j)

/-- A masked hit: one in a true mask's column where the ratio is above the threshold, else zero. -/
theorem hits_apply (t : BitVec 32) (i : Fin 1000) (j : Fin 128)
    (h49 : v49 (ix2 0 j) = if j.val < 100 then (1 : EReal) else 0) :
    hits t v44 v49 (ix2 i j) = if Hit t v44 i j then (1 : EReal) else 0 := by
  unfold hits
  pointwise
  rw [h49]
  by_cases h1 : j.val < 100 <;> by_cases h2 : Ideal.ofBits .f32 t < v44 (ix2 i j) <;> simp [Hit, h1, h2]

/-- Counting the columns with a hit. -/
theorem colCount_eq (B : FVec Ideal S1000x128 .f32) (p : Fin 1000 → Fin 128 → Prop)
    (hB : ∀ i j, B (ix2 i j) = if p i j then (1 : EReal) else 0) : colCount B = ∑ j, if ∃ i, p i j then (1 : EReal) else 0 := by
  unfold colCount
  pointwise
  simp only [hB]
  rw [Fin.sum_univ_one]
  exact Finset.sum_congr rfl fun j _ => Score.fold_max_ite fun i => p i j

/-- Counting the rows with a hit. -/
theorem rowCount_eq (B : FVec Ideal S1000x128 .f32) (p : Fin 1000 → Fin 128 → Prop)
    (hB : ∀ i j, B (ix2 i j) = if p i j then (1 : EReal) else 0) : rowCount B = ∑ i, if ∃ j, p i j then (1 : EReal) else 0 := by
  unfold rowCount
  pointwise
  simp only [hB]
  exact Finset.sum_congr rfl fun i _ => (Fin.sum_univ_one _).trans (Score.fold_max_ite fun j => p i j)

/-- A sum over the padded columns that is zero from column 100 on is the sum over the true masks. -/
theorem sum_pad (f : Fin 128 → EReal) (h : ∀ j, ¬j.val < 100 → f j = 0) : ∑ j, f j = ∑ j : Fin 100, f ⟨j.val, by omega⟩ := by
  refine (Fin.sum_univ_add (a := 100) (b := 28) f).trans ?_
  rw [Finset.sum_eq_zero (s := (Finset.univ : Finset (Fin 28))) fun j _ => h _ (by show ¬100 + j.val < 100; omega), add_zero]
  rfl

/-- The kernel's precision at a threshold is the score of the ratios in its first 100 columns. -/
theorem prec_eq (t : BitVec 32) (R : Fin 1000 → Fin 100 → EReal) (h44 : ∀ i (j : Fin 100), v44 (ix2 i (⟨j.val, by omega⟩ : Fin 128)) = R i j)
    (h49 : ∀ j : Fin 128, v49 (ix2 0 j) = if j.val < 100 then (1 : EReal) else 0) : prec t v44 v49 = score R t := by
  have hB := fun i j => hits_apply v44 v49 t i j (h49 j)
  unfold prec score
  rw [colCount_eq _ _ hB, rowCount_eq _ _ hB]
  have hc : (∑ j : Fin 128, if ∃ i, Hit t v44 i j then (1 : EReal) else 0) = found (matched R t) := by
    rw [sum_pad _ fun j hj => if_neg fun ⟨i, h, _⟩ => hj h]
    refine Finset.sum_congr rfl fun j _ => if_congr (exists_congr fun i => ?_) rfl rfl
    unfold Hit
    rw [h44]
    exact and_iff_right j.isLt
  have hr : (∑ i : Fin 1000, if ∃ j : Fin 128, Hit t v44 i j then (1 : EReal) else 0) = used (matched R t) := by
    refine Finset.sum_congr rfl fun i _ => if_congr ⟨fun ⟨j, h, hj⟩ => ⟨⟨j.val, h⟩, ?_⟩, fun ⟨j, hj⟩ => ⟨⟨j.val, by omega⟩, j.isLt, ?_⟩⟩ rfl rfl
    · have := h44 i ⟨j.val, h⟩
      unfold matched
      rw [← this]; exact hj
    · rw [h44]; exact hj
  rw [hc, hr]
  rfl

/-- The kernel's ratio of counts, when the accumulators hold words of counts. -/
theorem pay2_apply (i : Fin 1000) (j : Fin 128) (n a g : ℕ) (hn : (acc (ix2 i j)).toInt = (n : ℤ)) (ha : (acc (ix2 i 127)).toInt = (a : ℤ))
    (hg : (ag (ix2 0 j)).toInt = (g : ℤ)) : k0_pay2 (F := Ideal) acc ag (ix2 i j) = ratio n a g := by
  have e : ∀ (b : BitVec 32) (n : ℕ), b.toInt = (n : ℤ) → (FloatOps.sitofp .f32 b : Ideal .f32) = num n := fun b n h => by
    show (((b.toInt : ℤ) : ℝ) : EReal) = ((n : ℝ) : EReal)
    rw [h, Int.cast_natCast]
  unfold k0_pay2 ratio
  pointwise
  rw [e _ _ hn, e _ _ ha, e _ _ hg]

/-- The mask of true columns. -/
theorem pay3_apply (j : Fin 128) : k0_pay3 (F := Ideal) (ix2 0 j) = if j.val < 100 then (1 : EReal) else 0 := by
  unfold k0_pay3
  pointwise
  have key : ∀ j : Fin 128, (BitVec.setWidth 32 (IntOp.cmpi CmpIPredicate.slt (BitVec.ofNat 32 j.val) 100#32)).toInt = if j.val < 100 then 1 else 0 := by decide +kernel
  show (((BitVec.toInt _ : ℤ) : ℝ) : EReal) = _
  rw [key j]
  split <;> simp

end Cert.Finish

end
-- ==== Proof.KernelValue.lean ====
/-
  The kernel's two results, in terms of the scores.
-/
module

public import proofs.«01_k».proof.Proof.Totals
public import proofs.«01_k».proof.Proof.Finish

@[expose] public section

noncomputable section

open Idealize.ShloMosaic Idealize.ShloMosaic.TcCoe Idealize.SL.Sem

namespace Cert.KernelIdeal.Body

open Cert.KernelIdeal Cert.KernelIdeal.Gen Cert.Score

variable (m : (ℓ : Loc nD τ sig) → Buf (Elt Ideal) ℓ) (ρ : Dev nD → PrngReg) (c : Dev nD)

/-- Rows 0 … 99 of the padded true masks are the true masks, and row 127 is all ones. -/
theorem Gpad_true (B : FVec Ideal S100x128x128 .f32) (j : Fin 100) (k : Fin 16384) :
    Spec.Gpad B (⟨j.val, by omega⟩ : Fin 128) k = Spec.G B j k := by
  unfold Spec.Gpad
  exact dif_pos j.isLt
theorem Gpad_ones (B : FVec Ideal S100x128x128 .f32) (k : Fin 16384) : Spec.Gpad B 127 k = 1 := by
  unfold Spec.Gpad
  rw [dif_neg (by decide), if_pos (by decide)]

/-- The finished accumulators, read as integers: the shared pixels of a predicted and a true mask, -/
theorem acc_inter (i : Fin 1000) (j : Fin 100) :
    (accs m c 3 lt3 (ValueIdx.ix2 i (⟨j.val, by omega⟩ : Fin 128)) : BitVec 32).toInt = (Spec.inter (A0 m c) (A1 m c) i j : ℤ) := by
  have e : ∑ k, Spec.P (A0 m c) i k * Spec.Gpad (A1 m c) (⟨j.val, by omega⟩ : Fin 128) k = Spec.inter (A0 m c) (A1 m c) i j :=
    Finset.sum_congr rfl fun k _ => by rw [Gpad_true]
  rw [accs_total, e]
  exact Spec.toInt_count _ (Spec.sum_le _ fun k => Nat.mul_le_mul (Spec.P_le _ _ _) (Spec.G_le _ _ _))

/-- the area of a predicted mask, in the last column, -/
theorem acc_area (i : Fin 1000) : (accs m c 3 lt3 (ValueIdx.ix2 i 127) : BitVec 32).toInt = (Spec.areaP (A0 m c) i : ℤ) := by
  have e : ∑ k, Spec.P (A0 m c) i k * Spec.Gpad (A1 m c) 127 k = Spec.areaP (A0 m c) i :=
    Finset.sum_congr rfl fun k _ => by rw [Gpad_ones, Nat.mul_one]
  rw [accs_total, e]
  exact Spec.toInt_count _ (Spec.sum_le _ fun k => Spec.P_le _ _ _)

/-- and the area of a true mask. -/
theorem ag_area (j : Fin 100) :
    (row0 (ags m c 3 lt3) (ValueIdx.ix2 0 (⟨j.val, by omega⟩ : Fin 128)) : BitVec 32).toInt = (Spec.areaG (A1 m c) j : ℤ) := by
  have e : ∑ k, Spec.Gpad (A1 m c) (⟨j.val, by omega⟩ : Fin 128) k = Spec.areaG (A1 m c) j :=
    Finset.sum_congr rfl fun k _ => by rw [Gpad_true]
  rw [row0_total, e]
  exact Spec.toInt_count _ (Spec.sum_le _ fun k => Spec.G_le _ _ _)

/-- The kernel's precision at a threshold word is the score of the ratios of the launched masks. -/
theorem prec_score (t : BitVec 32) :
    Finish.prec t (k0_pay2 (F := Ideal) (accs m c 3 lt3) (row0 (ags m c 3 lt3))) k0_pay3 = score (ratios (A0 m c) (A1 m c)) t :=
  Finish.prec_eq _ _ t _
    (fun i j => Finish.pay2_apply _ _ i _ _ _ _ (acc_inter m c i j) (acc_area m c i) (ag_area m c j))
    Finish.pay3_apply

/-- Its first result is the score at the first threshold, -/
theorem result_00 : result m c (ValueIdx.ix2 0 0) = score (ratios (A0 m c) (A1 m c)) (word 0) :=
  (Finish.finish_00 _ _).trans (prec_score m c _)

/-- and its second the mean of the ten scores. -/
theorem result_01 : result m c (ValueIdx.ix2 0 1) = mean fun n => score (ratios (A0 m c) (A1 m c)) (word n) :=
  (Finish.finish_01 _ _).trans (congrArg mean (funext fun n => prec_score m c _))

/-- The kernel ends with the score at the first threshold, the mean of the ten scores, and its arguments as they were. -/
theorem run_scores : θ_run defs (onTc (τ := τ) (main (F := Ideal))) ⟨m, fun _ => 0, ρ⟩ fun r => ∀ c : Dev nD,
      r.2.mem ((c.tc : Thread nD τ).loc main_v3) = (fun _ => score (ratios (A0 m c) (A1 m c)) (word 0))
      ∧ r.2.mem ((c.tc : Thread nD τ).loc main_v5) = (fun _ => mean fun n => score (ratios (A0 m c) (A1 m c)) (word n))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h.1 c).1.trans (funext fun _ => result_00 m c), (h.1 c).2.trans (funext fun _ => result_01 m c), h.2 c⟩)
    (θ_run_and (run m ρ) (Cert.KernelIdeal.Gen.unchanged m ρ))

end Cert.KernelIdeal.Body

end
-- ==== Proof.Reference.lean ====
/-
  What the reference computes, in the same sums and scores.
-/
module

public import proofs.«01_k».proof.Proof.Gen.ReferenceIdeal.Run
public import proofs.«01_k».proof.Proof.Score
public import Idealize.ShloMosaic.Lib.Pointwise
public import Idealize.ShloMosaic.PureOps.Reduce

@[expose] public section

noncomputable section

open Idealize.ShloMosaic Idealize.ShloMosaic.TcCoe Idealize.SL.Sem
open scoped Classical

namespace Cert.ReferenceIdeal.Spelled

open Cert.ReferenceIdeal Cert.ReferenceIdeal.Gen Cert.ReferenceIdeal.Value Cert.Score

/-- The two batches of masks as the reference thresholds them: rows of zeros and ones. -/
def predRows (A : FVec Ideal S1000x128x128 .f32) : FVec Ideal S1000x16384 .f32 :=
  uitofp .f32 (cmpf .ogt (shapeCast S1000x16384 A shapeCasts_S1000x128x128_S1000x16384) (broadcastInDim S1000x16384 ![] bcast_S_S1000x16384 (constant S_ .f32 0x3F000000#32)))
def trueRows (B : FVec Ideal S100x128x128 .f32) : FVec Ideal S100x16384 .f32 :=
  uitofp .f32 (cmpf .ogt (shapeCast S100x16384 B shapeCasts_S100x128x128_S100x16384) (broadcastInDim S100x16384 ![] bcast_S_S100x16384 (constant S_ .f32 0x3F000000#32)))

/-- The shared pixels of all pairs, and the ratios from them. -/
def shared (P : FVec Ideal S1000x16384 .f32) (G : FVec Ideal S100x16384 .f32) : FVec Ideal S1000x100 .f32 :=
  Host.dotGeneral dot_S1000x16384_S16384x100_S1000x100_1_0_0_1_n_n none P (transpose S16384x100 [1, 0] G transposes_S100x16384_S16384x100_1_0)
def ious (P : FVec Ideal S1000x16384 .f32) (G : FVec Ideal S100x16384 .f32) : FVec Ideal S1000x100 .f32 :=
  Host.divf (shared P G) (maximumf (subf (addf
    (broadcastInDim S1000x100 ![0, 1] bcast_S1000x1_S1000x100_0_1 (broadcastInDim S1000x1 ![0] bcast_S1000_S1000x1_0
      (Host.reduceAdd P (constant S_ .f32 0x00000000#32) reducesTo_S1000x16384_S1000_d1 h_S_)))
    (broadcastInDim S1000x100 ![0, 1] bcast_S1x100_S1000x100_0_1 (broadcastInDim S1x100 ![1] bcast_S100_S1x100_1
      (Host.reduceAdd G (constant S_ .f32 0x00000000#32) reducesTo_S100x16384_S100_d1 h_S_)))) (shared P G))
    (broadcastInDim S1000x100 ![] bcast_S_S1000x100 (constant S_ .f32 0x3089705F#32)))

/-- The matches at a threshold word, the number of columns and of rows with a match, and the precision from them. -/
def hits (v : FVec Ideal S1000x100 .f32) (t : BitVec 32) : IVec S1000x100 1 :=
  cmpf .ogt v (broadcastInDim S1000x100 ![] bcast_S_S1000x100 (constant S_ .f32 t))
def columns (h : IVec S1000x100 1) : FVec Ideal S_ .f32 :=
  Host.reduceAdd (uitofp .f32 (Host.reduce IntOp.ori h (constantI S_ 1 0#1) reducesTo_S1000x100_S100_d0 h_S_)) (constant S_ .f32 0x00000000#32) reducesTo_S100_S_d0 h_S_
def rows (h : IVec S1000x100 1) : FVec Ideal S_ .f32 :=
  Host.reduceAdd (uitofp .f32 (Host.reduce IntOp.ori h (constantI S_ 1 0#1) reducesTo_S1000x100_S1000_d1 h_S_)) (constant S_ .f32 0x00000000#32) reducesTo_S1000_S_d0 h_S_
def precision (tp mt : FVec Ideal S_ .f32) : FVec Ideal S_ .f32 :=
  Host.divf tp (maximumf (addf (addf tp (subf (constant S_ .f32 0x447A0000#32) mt)) (subf (constant S_ .f32 0x42C80000#32) tp)) (constant S_ .f32 0x3089705F#32))
def at_ (v : FVec Ideal S1000x100 .f32) (t : BitVec 32) : FVec Ideal S_ .f32 := precision (columns (hits v t)) (rows (hits v t))

/-- A bit read as an extended real is the count of its value. -/
theorem uitofp_num (b : BitVec 1) : (FloatOps.uitofp .f32 b : Ideal .f32) = num b.toNat := rfl

/-- A thresholded predicted mask, pixel by pixel, -/
theorem predRows_apply (A : FVec Ideal S1000x128x128 .f32) (i : Fin 1000) (k : Fin 16384) :
    predRows A (ix2 i k) = num (Spec.P A i k) := by
  unfold predRows
  pointwise
  rfl

/-- and a thresholded true mask. -/
theorem trueRows_apply (B : FVec Ideal S100x128x128 .f32) (j : Fin 100) (k : Fin 16384) :
    trueRows B (ix2 j k) = num (Spec.G B j k) := by
  unfold trueRows
  pointwise
  rfl

/-- The product at a pair of masks is the sum of the products of their pixels. -/
theorem shared_apply (P : FVec Ideal S1000x16384 .f32) (G : FVec Ideal S100x16384 .f32) (i : Fin 1000) (j : Fin 100) :
    shared P G (ix2 i j) = ∑ k, P (ix2 i k) * G (ix2 j k) := by
  unfold shared
  pointwise

/-- The ratio at a pair of masks. -/
theorem ious_apply (P : FVec Ideal S1000x16384 .f32) (G : FVec Ideal S100x16384 .f32) (i : Fin 1000) (j : Fin 100) :
    ious P G (ix2 i j) = Ideal.div (shared P G (ix2 i j)) (max ((∑ k, P (ix2 i k)) + (∑ k, G (ix2 j k)) - shared P G (ix2 i j)) (Ideal.ofBits .f32 0x3089705F#32)) := by
  unfold ious
  pointwise

/-- Counts add and multiply as extended reals do. -/
theorem num_sum {ι : Type} (s : Finset ι) (f : ι → ℕ) : ∑ k ∈ s, num (f k) = num (∑ k ∈ s, f k) := by
  classical
  induction s using Finset.induction_on with
  | empty => simp [num]
  | insert a s ha ih =>
    rw [Finset.sum_insert ha, Finset.sum_insert ha, ih]
    unfold num
    rw [Nat.cast_add, EReal.coe_add]
theorem num_mul (a b : ℕ) : num a * num b = num (a * b) := by
  unfold num
  rw [Nat.cast_mul, EReal.coe_mul]

/-- The reference's ratios are the ratios of the counts. -/
theorem ious_eq (A : FVec Ideal S1000x128x128 .f32) (B : FVec Ideal S100x128x128 .f32) (i : Fin 1000) (j : Fin 100) :
    ious (predRows A) (trueRows B) (ix2 i j) = ratios A B i j := by
  have h1 : shared (predRows A) (trueRows B) (ix2 i j) = num (Spec.inter A B i j) := by
    rw [shared_apply]
    unfold Spec.inter
    rw [← num_sum]
    exact Finset.sum_congr rfl fun k _ => by rw [predRows_apply, trueRows_apply, num_mul]
  have h2 : ∑ k, predRows A (ix2 i k) = num (Spec.areaP A i) := by
    unfold Spec.areaP
    rw [← num_sum]
    exact Finset.sum_congr rfl fun k _ => predRows_apply A i k
  have h3 : ∑ k, trueRows B (ix2 j k) = num (Spec.areaG B j) := by
    unfold Spec.areaG
    rw [← num_sum]
    exact Finset.sum_congr rfl fun k _ => trueRows_apply B j k
  rw [ious_apply, h1, h2, h3]
  rfl

/-- A disjunction read as an extended real. -/
theorem or_num {n : ℕ} (b : Fin n → BitVec 1) :
    (FloatOps.uitofp .f32 (Finset.fold IntOp.ori (0#1) b Finset.univ) : Ideal .f32) = if ∃ k, b k = 1#1 then (1 : EReal) else 0 := by
  rw [uitofp_num]
  unfold num
  rw [Score.fold_or_toNat]
  have e : (∃ k ∈ Finset.univ, b k = 1#1) ↔ ∃ k, b k = 1#1 := by simp
  by_cases hx : ∃ k, b k = 1#1
  · rw [if_pos (e.2 hx), if_pos hx, EReal.coe_one]
  · rw [if_neg (mt e.1 hx), if_neg hx, EReal.coe_zero]

variable (h : IVec S1000x100 1) (H : Fin 1000 → Fin 100 → Prop) (hH : ∀ i j, h (ix2 i j) = 1#1 ↔ H i j) (q : S_.Idx)
include hH

/-- The number of columns with a match, -/
theorem columns_apply : columns h q = found H := by
  unfold columns
  pointwise
  exact Finset.sum_congr rfl fun j _ => (or_num _).trans (if_congr (exists_congr fun i => hH i j) rfl rfl)

/-- and the number of rows. -/
theorem rows_apply : rows h q = used H := by
  unfold rows
  pointwise
  exact Finset.sum_congr rfl fun i _ => (or_num _).trans (if_congr (exists_congr fun j => hH i j) rfl rfl)

omit hH

/-- A pair is matched when its ratio is above the threshold. -/
theorem hits_apply (v : FVec Ideal S1000x100 .f32) (t : BitVec 32) (i : Fin 1000) (j : Fin 100) :
    hits v t (ix2 i j) = 1#1 ↔ Ideal.ofBits .f32 t < v (ix2 i j) := by
  unfold hits
  pointwise
  by_cases hc : Ideal.ofBits .f32 t < v (ix2 i j) <;> simp [hc]

/-- The precision from the two counts. -/
theorem precision_apply (tp mt : FVec Ideal S_ .f32) (q : S_.Idx) : precision tp mt q = Score.prec (tp q) (mt q) := by
  unfold precision Score.prec
  rfl

/-- The precision at a threshold word is the score of the ratios. -/
theorem at_apply (v : FVec Ideal S1000x100 .f32) (R : Fin 1000 → Fin 100 → EReal) (hv : ∀ i j, v (ix2 i j) = R i j) (t : BitVec 32) (q : S_.Idx) :
    at_ v t q = score R t := by
  have hH : ∀ i j, hits v t (ix2 i j) = 1#1 ↔ matched R t i j := fun i j => by
    rw [hits_apply, hv]; rfl
  unfold at_
  rw [precision_apply, columns_apply _ _ hH, rows_apply _ _ hH]
  rfl

/-- The ten precisions as an array. -/
def ten (x0 x1 x2 x3 x4 x5 x6 x7 x8 x9 : FVec Ideal S_ .f32) : FVec Ideal S10 .f32 :=
  concatenate S10 0 [⟨S1, ((broadcastInDim S1 ![] bcast_S_S1 x0) : (⟨S1, .f32⟩ : BufTy).Contents (Elt Ideal))⟩, ⟨S1, ((broadcastInDim S1 ![] bcast_S_S1 x1) : (⟨S1, .f32⟩ : BufTy).Contents (Elt Ideal))⟩, ⟨S1, ((broadcastInDim S1 ![] bcast_S_S1 x2) : (⟨S1, .f32⟩ : BufTy).Contents (Elt Ideal))⟩, ⟨S1, ((broadcastInDim S1 ![] bcast_S_S1 x3) : (⟨S1, .f32⟩ : BufTy).Contents (Elt Ideal))⟩, ⟨S1, ((broadcastInDim S1 ![] bcast_S_S1 x4) : (⟨S1, .f32⟩ : BufTy).Contents (Elt Ideal))⟩, ⟨S1, ((broadcastInDim S1 ![] bcast_S_S1 x5) : (⟨S1, .f32⟩ : BufTy).Contents (Elt Ideal))⟩, ⟨S1, ((broadcastInDim S1 ![] bcast_S_S1 x6) : (⟨S1, .f32⟩ : BufTy).Contents (Elt Ideal))⟩, ⟨S1, ((broadcastInDim S1 ![] bcast_S_S1 x7) : (⟨S1, .f32⟩ : BufTy).Contents (Elt Ideal))⟩, ⟨S1, ((broadcastInDim S1 ![] bcast_S_S1 x8) : (⟨S1, .f32⟩ : BufTy).Contents (Elt Ideal))⟩, ⟨S1, ((broadcastInDim S1 ![] bcast_S_S1 x9) : (⟨S1, .f32⟩ : BufTy).Contents (Elt Ideal))⟩]
    concatenates_S1_S1_S1_S1_S1_S1_S1_S1_S1_S1_S10_d0

/-- Their sum. -/
theorem ten_sum (p : Fin 10 → EReal) (x : Fin 10 → FVec Ideal S_ .f32) (h : ∀ n, x n ValueIdx.ix0 = p n) (q : S_.Idx) :
    Host.reduceAdd (ten (x 0) (x 1) (x 2) (x 3) (x 4) (x 5) (x 6) (x 7) (x 8) (x 9)) (constant S_ .f32 0x00000000#32) reducesTo_S10_S_d0 h_S_ q
      = ∑ n, p n := by
  unfold ten
  pointwise
  refine Finset.sum_congr rfl fun n _ => ?_
  fin_cases n
  exacts [h 0, h 1, h 2, h 3, h 4, h 5, h 6, h 7, h 8, h 9]

variable (V : Valuation τ sig (Elt Ideal))

/-- The reference's own terms, named. -/
theorem v20_eq : res_main_v20 V = ious (predRows (V (Proc.devRef .tc main_arg0))) (trueRows (V (Proc.devRef .tc main_arg1))) := rfl
theorem v171_eq : res_main_v171 V = ten (at_ (res_main_v20 V) (word 0)) (at_ (res_main_v20 V) (word 1)) (at_ (res_main_v20 V) (word 2)) (at_ (res_main_v20 V) (word 3))
    (at_ (res_main_v20 V) (word 4)) (at_ (res_main_v20 V) (word 5)) (at_ (res_main_v20 V) (word 6)) (at_ (res_main_v20 V) (word 7)) (at_ (res_main_v20 V) (word 8))
    (at_ (res_main_v20 V) (word 9)) := rfl

/-- The reference's first result: the mean of one precision. -/
def first : FVec Ideal S_ .f32 :=
  Host.divf (Host.reduceAdd (broadcastInDim S1 ![] bcast_S_S1 (at_ (res_main_v20 V) (word 0))) (constant S_ .f32 0x00000000#32) reducesTo_S1_S_d0 h_S_)
    (constant S_ .f32 0x3F800000#32)

/-- The reference's second result: the mean of ten. -/
def second : FVec Ideal S_ .f32 :=
  Host.divf (Host.reduceAdd (res_main_v171 V) (constant S_ .f32 0x00000000#32) reducesTo_S10_S_d0 h_S_) (constant S_ .f32 0x41200000#32)

/-- A quotient by one. -/
theorem div_one (x : EReal) : Ideal.div x 1 = x := by
  simp [Ideal.div]

variable (A : FVec Ideal S1000x128x128 .f32) (B : FVec Ideal S100x128x128 .f32)
  (hA : V (Proc.devRef .tc main_arg0) = A) (hB : V (Proc.devRef .tc main_arg1) = B)
include hA hB

theorem v20_apply (i : Fin 1000) (j : Fin 100) : (res_main_v20 V : FVec Ideal S1000x100 .f32) (ix2 i j) = ratios A B i j := by
  rw [v20_eq, hA, hB]
  exact ious_eq A B i j

/-- The first result is the score at the first threshold, -/
theorem first_apply (q : S_.Idx) : first V q = score (ratios A B) (word 0) := by
  unfold first
  generalize ha : at_ (res_main_v20 V) (word 0) = x
  pointwise
  rw [← ha, at_apply _ _ (v20_apply V A B hA hB)]
  rw [Fin.sum_univ_one]
  exact div_one _

/-- and the second the mean of the ten scores. -/
theorem second_apply (q : S_.Idx) : second V q = mean fun n => score (ratios A B) (word n) := by
  unfold second
  rw [v171_eq]
  exact congrArg (fun x => Ideal.div x (Ideal.ofBits .f32 0x41200000#32))
    (ten_sum _ (fun n => at_ (res_main_v20 V) (word n)) (fun n => at_apply _ _ (v20_apply V A B hA hB) _ _) q)

omit hA hB

/-- The reference ends with the same score and the same mean, and its arguments as they were. -/
theorem run_scores (m : (ℓ : Loc nD τ sig) → Buf (Elt Ideal) ℓ) (ρ : Dev nD → PrngReg) (A : Dev nD → FVec Ideal S1000x128x128 .f32)
    (B : Dev nD → FVec Ideal S100x128x128 .f32) (hA : ∀ c : Dev nD, m ((c.tc : Thread nD τ).loc main_arg0) = A c) (hB : ∀ c : Dev nD, m ((c.tc : Thread nD τ).loc main_arg1) = B c) :
    θ_run defs (onTc (τ := τ) (main (F := Ideal))) ⟨m, fun _ => 0, ρ⟩ fun r => ∀ c : Dev nD,
      r.2.mem ((c.tc : Thread nD τ).loc main_v211) = (fun _ => score (ratios (A c) (B c)) (word 0))
      ∧ r.2.mem ((c.tc : Thread nD τ).loc main_v173) = (fun _ => mean fun n => score (ratios (A c) (B c)) (word n))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (funext fun q => first_apply _ (A c) (B c) (hA c) (hB c) q),
      (h c).2.1.trans (funext fun q => second_apply _ (A c) (B c) (hA c) (hB c) q), (h c).2.2⟩)
    (Cert.ReferenceIdeal.Value.run (F := Ideal) m ρ)

end Cert.ReferenceIdeal.Spelled
end
-- ==== Proof.lean ====
/-
  The claims together: the three programs' frames, the ideal kernel preserved, and the two programs' results equal over
  the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to its end, leaves its arguments as they were, and has no semaphore. -/
theorem frame_reference : Cert.quiescent_ReferenceIdeal (hReferenceIdeal := Cert.ReferenceIdeal.Gen.facts) :=
  fun m g _ => (θ_run _ _ _).mono
    (fun r h => ⟨fun c => ⟨(h c).2.2.1, (h c).2.2.2⟩, sem_eq_zero_of_no_sems rfl r.2⟩)
    (Cert.ReferenceIdeal.Value.run (F := Ideal) m g)

/-- Over the extended reals the kernel and the reference end with the same two numbers. -/
theorem algebraic : Cert.algebraic_KernelIdeal_ReferenceIdeal (hKernelIdeal := Cert.KernelIdeal.Gen.facts) (hReferenceIdeal := Cert.ReferenceIdeal.Gen.facts) :=
  fun m g m' g' _ h => ⟨_, _, Cert.KernelIdeal.Body.run_scores m g,
    Cert.ReferenceIdeal.Spelled.run_scores m' g' (Cert.KernelIdeal.Body.A0 m) (Cert.KernelIdeal.Body.A1 m) (fun c => (h c).1) (fun c => (h c).2)⟩

/-- Everything claimed. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
